-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 1024]⟩ (Layout.meshBlock [2, 2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S9 : Shape := ⟨1, ![9]⟩
abbrev S8 : Shape := ⟨1, ![8]⟩
abbrev S6 : Shape := ⟨1, ![6]⟩
abbrev S_ : Shape := ⟨0, ![]⟩
abbrev S1 : Shape := ⟨1, ![1]⟩
abbrev S128x1024 : Shape := ⟨2, ![128, 1024]⟩
abbrev S464x1024 : Shape := ⟨2, ![464, 1024]⟩
abbrev S104x1024 : Shape := ⟨2, ![104, 1024]⟩
abbrev S24x1024 : Shape := ⟨2, ![24, 1024]⟩
abbrev S48x1024 : Shape := ⟨2, ![48, 1024]⟩
abbrev S560x1024 : Shape := ⟨2, ![560, 1024]⟩

abbrev nBuf : Space → Nat
  | .hbm => 2
  | .vmem => 3
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .local _ .vmem, ⟨0, _⟩ => ⟨S4096x1024, .f32⟩
  | .local _ .vmem, ⟨1, _⟩ => ⟨S4096x1024, .f32⟩
  | .local _ .vmem, ⟨2, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  (ofTc nBuf bufTy 1 64 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_15 : BitVec 32 := 4#32
  let v25 : BitVec 32 := Scalar.muli v9 c4_i32_15
  let v26 : BitVec 32 := Scalar.addi c0_i32 v25
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v27 : BitVec 32 := Scalar.muli v5 c2_i32_16
  let v28 : BitVec 32 := Scalar.addi v26 v27
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_17 : BitVec 32 := 1#32
  let v29 : BitVec 32 := Scalar.muli v8 c1_i32_17
  let v30 : BitVec 32 := Scalar.addi v28 v29
  v30.toNat
def k0_dev2 (d0 : Dev nD) : Nat :=
  let c0_i32_20 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_19 : BitVec 32 := 4#32
  let v31 : BitVec 32 := Scalar.muli v2 c4_i32_19
  let v32 : BitVec 32 := Scalar.addi c0_i32_20 v31
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_21 : BitVec 32 := 2#32
  let v33 : BitVec 32 := Scalar.muli v10 c2_i32_21
  let v34 : BitVec 32 := Scalar.addi v32 v33
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_22 : BitVec 32 := 1#32
  let v35 : BitVec 32 := Scalar.muli v8 c1_i32_22
  let v36 : BitVec 32 := Scalar.addi v34 v35
  v36.toNat
def k0_dev3 (d0 : Dev nD) : Nat :=
  let c0_i32_25 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_24 : BitVec 32 := 4#32
  let v37 : BitVec 32 := Scalar.muli v2 c4_i32_24
  let v38 : BitVec 32 := Scalar.addi c0_i32_25 v37
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_26 : BitVec 32 := 2#32
  let v39 : BitVec 32 := Scalar.muli v5 c2_i32_26
  let v40 : BitVec 32 := Scalar.addi v38 v39
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_27 : BitVec 32 := 1#32
  let v41 : BitVec 32 := Scalar.muli v11 c1_i32_27
  let v42 : BitVec 32 := Scalar.addi v40 v41
  v42.toNat
def k0_off1 (d0 : Dev nD) (c640_i32_45 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_44 : BitVec 32 := 1024#32
  let v65 : BitVec 32 := Scalar.muli v13 c1024_i32_44
  let v66 : BitVec 32 := Scalar.addi v65 c640_i32_45
  let c0_i32_59 : BitVec 32 := 0#32
  ![v66.toNat, 0]
def k0_dev4 (d0 : Dev nD) : Nat :=
  let c0_i32_56 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_55 : BitVec 32 := 4#32
  let v77 : BitVec 32 := Scalar.muli v9 c4_i32_55
  let v78 : BitVec 32 := Scalar.addi c0_i32_56 v77
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_57 : BitVec 32 := 2#32
  let v79 : BitVec 32 := Scalar.muli v5 c2_i32_57
  let v80 : BitVec 32 := Scalar.addi v78 v79
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_58 : BitVec 32 := 1#32
  let v81 : BitVec 32 := Scalar.muli v8 c1_i32_58
  let v82 : BitVec 32 := Scalar.addi v80 v81
  v82.toNat
def k0_dev5 (d0 : Dev nD) : Nat :=
  let c0_i32_64 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_63 : BitVec 32 := 4#32
  let v89 : BitVec 32 := Scalar.muli v9 c4_i32_63
  let v90 : BitVec 32 := Scalar.addi c0_i32_64 v89
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_65 : BitVec 32 := 2#32
  let v91 : BitVec 32 := Scalar.muli v5 c2_i32_65
  let v92 : BitVec 32 := Scalar.addi v90 v91
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_66 : BitVec 32 := 1#32
  let v93 : BitVec 32 := Scalar.muli v8 c1_i32_66
  let v94 : BitVec 32 := Scalar.addi v92 v93
  v94.toNat
def k0_dev6 (d0 : Dev nD) : Nat :=
  let c0_i32_72 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_71 : BitVec 32 := 4#32
  let v101 : BitVec 32 := Scalar.muli v9 c4_i32_71
  let v102 : BitVec 32 := Scalar.addi c0_i32_72 v101
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_73 : BitVec 32 := 2#32
  let v103 : BitVec 32 := Scalar.muli v5 c2_i32_73
  let v104 : BitVec 32 := Scalar.addi v102 v103
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_74 : BitVec 32 := 1#32
  let v105 : BitVec 32 := Scalar.muli v8 c1_i32_74
  let v106 : BitVec 32 := Scalar.addi v104 v105
  v106.toNat
def k0_dev7 (d0 : Dev nD) : Nat :=
  let c0_i32_79 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_78 : BitVec 32 := 4#32
  let v113 : BitVec 32 := Scalar.muli v9 c4_i32_78
  let v114 : BitVec 32 := Scalar.addi c0_i32_79 v113
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_80 : BitVec 32 := 2#32
  let v115 : BitVec 32 := Scalar.muli v5 c2_i32_80
  let v116 : BitVec 32 := Scalar.addi v114 v115
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v117 : BitVec 32 := Scalar.muli v8 c1_i32_81
  let v118 : BitVec 32 := Scalar.addi v116 v117
  v118.toNat
def k0_dev8 (d0 : Dev nD) : Nat :=
  let c0_i32_86 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_85 : BitVec 32 := 4#32
  let v125 : BitVec 32 := Scalar.muli v9 c4_i32_85
  let v126 : BitVec 32 := Scalar.addi c0_i32_86 v125
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_87 : BitVec 32 := 2#32
  let v127 : BitVec 32 := Scalar.muli v5 c2_i32_87
  let v128 : BitVec 32 := Scalar.addi v126 v127
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_88 : BitVec 32 := 1#32
  let v129 : BitVec 32 := Scalar.muli v8 c1_i32_88
  let v130 : BitVec 32 := Scalar.addi v128 v129
  v130.toNat
def k0_dev9 (d0 : Dev nD) : Nat :=
  let c0_i32_94 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_93 : BitVec 32 := 4#32
  let v137 : BitVec 32 := Scalar.muli v9 c4_i32_93
  let v138 : BitVec 32 := Scalar.addi c0_i32_94 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_95 : BitVec 32 := 2#32
  let v139 : BitVec 32 := Scalar.muli v5 c2_i32_95
  let v140 : BitVec 32 := Scalar.addi v138 v139
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_96 : BitVec 32 := 1#32
  let v141 : BitVec 32 := Scalar.muli v8 c1_i32_96
  let v142 : BitVec 32 := Scalar.addi v140 v141
  v142.toNat
def k0_dev10 (d0 : Dev nD) : Nat :=
  let c0_i32_102 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_101 : BitVec 32 := 4#32
  let v149 : BitVec 32 := Scalar.muli v9 c4_i32_101
  let v150 : BitVec 32 := Scalar.addi c0_i32_102 v149
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_103 : BitVec 32 := 2#32
  let v151 : BitVec 32 := Scalar.muli v5 c2_i32_103
  let v152 : BitVec 32 := Scalar.addi v150 v151
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_104 : BitVec 32 := 1#32
  let v153 : BitVec 32 := Scalar.muli v8 c1_i32_104
  let v154 : BitVec 32 := Scalar.addi v152 v153
  v154.toNat
def k0_dev11 (d0 : Dev nD) : Nat :=
  let c0_i32_110 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_109 : BitVec 32 := 4#32
  let v161 : BitVec 32 := Scalar.muli v9 c4_i32_109
  let v162 : BitVec 32 := Scalar.addi c0_i32_110 v161
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_111 : BitVec 32 := 2#32
  let v163 : BitVec 32 := Scalar.muli v5 c2_i32_111
  let v164 : BitVec 32 := Scalar.addi v162 v163
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_112 : BitVec 32 := 1#32
  let v165 : BitVec 32 := Scalar.muli v8 c1_i32_112
  let v166 : BitVec 32 := Scalar.addi v164 v165
  v166.toNat
def k0_off2 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_53 : BitVec 32 := 1024#32
  let v76 : BitVec 32 := Scalar.muli v23 c1024_i32_53
  let c0_i32_120 : BitVec 32 := 0#32
  ![v76.toNat, 0]
def k0_dev12 (d0 : Dev nD) : Nat :=
  let c0_i32_117 : BitVec 32 := 0#32
  let c1_i32_3 : BitVec 32 := 1#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.subi c1_i32_3 v2
  let c4_i32_116 : BitVec 32 := 4#32
  let v173 : BitVec 32 := Scalar.muli v9 c4_i32_116
  let v174 : BitVec 32 := Scalar.addi c0_i32_117 v173
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_118 : BitVec 32 := 2#32
  let v175 : BitVec 32 := Scalar.muli v5 c2_i32_118
  let v176 : BitVec 32 := Scalar.addi v174 v175
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_119 : BitVec 32 := 1#32
  let v177 : BitVec 32 := Scalar.muli v8 c1_i32_119
  let v178 : BitVec 32 := Scalar.addi v176 v177
  v178.toNat
def k0_dev13 (d0 : Dev nD) : Nat :=
  let c0_i32_199 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_198 : BitVec 32 := 4#32
  let v261 : BitVec 32 := Scalar.muli v2 c4_i32_198
  let v262 : BitVec 32 := Scalar.addi c0_i32_199 v261
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_200 : BitVec 32 := 2#32
  let v263 : BitVec 32 := Scalar.muli v10 c2_i32_200
  let v264 : BitVec 32 := Scalar.addi v262 v263
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_201 : BitVec 32 := 1#32
  let v265 : BitVec 32 := Scalar.muli v8 c1_i32_201
  let v266 : BitVec 32 := Scalar.addi v264 v265
  v266.toNat
def k0_dev14 (d0 : Dev nD) : Nat :=
  let c0_i32_207 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_206 : BitVec 32 := 4#32
  let v273 : BitVec 32 := Scalar.muli v2 c4_i32_206
  let v274 : BitVec 32 := Scalar.addi c0_i32_207 v273
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_208 : BitVec 32 := 2#32
  let v275 : BitVec 32 := Scalar.muli v5 c2_i32_208
  let v276 : BitVec 32 := Scalar.addi v274 v275
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_209 : BitVec 32 := 1#32
  let v277 : BitVec 32 := Scalar.muli v11 c1_i32_209
  let v278 : BitVec 32 := Scalar.addi v276 v277
  v278.toNat
def k0_off3 (d0 : Dev nD) (c640_i32_213 : BitVec 32) : Fin 2 → Nat :=
  let c2_i32_6 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v12 : BitVec 32 := Scalar.muli c2_i32_6 v5
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v13 : BitVec 32 := Scalar.addi v12 v8
  let c1024_i32_212 : BitVec 32 := 1024#32
  let v285 : BitVec 32 := Scalar.muli v13 c1024_i32_212
  let v286 : BitVec 32 := Scalar.addi v285 c640_i32_213
  let v287 : Index := Scalar.indexCast v286
  let c0 : Index := 0#32
  ![v287.toNat, 0]
def k0_dev15 (d0 : Dev nD) : Nat :=
  let c0_i32_229 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_228 : BitVec 32 := 4#32
  let v307 : BitVec 32 := Scalar.muli v2 c4_i32_228
  let v308 : BitVec 32 := Scalar.addi c0_i32_229 v307
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_230 : BitVec 32 := 2#32
  let v309 : BitVec 32 := Scalar.muli v10 c2_i32_230
  let v310 : BitVec 32 := Scalar.addi v308 v309
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_231 : BitVec 32 := 1#32
  let v311 : BitVec 32 := Scalar.muli v8 c1_i32_231
  let v312 : BitVec 32 := Scalar.addi v310 v311
  v312.toNat
def k0_dev16 (d0 : Dev nD) : Nat :=
  let c0_i32_237 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_236 : BitVec 32 := 4#32
  let v319 : BitVec 32 := Scalar.muli v2 c4_i32_236
  let v320 : BitVec 32 := Scalar.addi c0_i32_237 v319
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_238 : BitVec 32 := 2#32
  let v321 : BitVec 32 := Scalar.muli v5 c2_i32_238
  let v322 : BitVec 32 := Scalar.addi v320 v321
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_239 : BitVec 32 := 1#32
  let v323 : BitVec 32 := Scalar.muli v11 c1_i32_239
  let v324 : BitVec 32 := Scalar.addi v322 v323
  v324.toNat
def k0_dev17 (d0 : Dev nD) : Nat :=
  let c0_i32_260 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_259 : BitVec 32 := 4#32
  let v353 : BitVec 32 := Scalar.muli v2 c4_i32_259
  let v354 : BitVec 32 := Scalar.addi c0_i32_260 v353
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_261 : BitVec 32 := 2#32
  let v355 : BitVec 32 := Scalar.muli v10 c2_i32_261
  let v356 : BitVec 32 := Scalar.addi v354 v355
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_262 : BitVec 32 := 1#32
  let v357 : BitVec 32 := Scalar.muli v8 c1_i32_262
  let v358 : BitVec 32 := Scalar.addi v356 v357
  v358.toNat
def k0_dev18 (d0 : Dev nD) : Nat :=
  let c0_i32_268 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_267 : BitVec 32 := 4#32
  let v365 : BitVec 32 := Scalar.muli v2 c4_i32_267
  let v366 : BitVec 32 := Scalar.addi c0_i32_268 v365
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_269 : BitVec 32 := 2#32
  let v367 : BitVec 32 := Scalar.muli v5 c2_i32_269
  let v368 : BitVec 32 := Scalar.addi v366 v367
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_270 : BitVec 32 := 1#32
  let v369 : BitVec 32 := Scalar.muli v11 c1_i32_270
  let v370 : BitVec 32 := Scalar.addi v368 v369
  v370.toNat
def k0_off4 (d0 : Dev nD) (c640_i32_145 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_144 : BitVec 32 := 1024#32
  let v207 : BitVec 32 := Scalar.muli v16 c1024_i32_144
  let v208 : BitVec 32 := Scalar.addi v207 c640_i32_145
  let c0_i32_284 : BitVec 32 := 0#32
  ![v208.toNat, 0]
def k0_off5 (d0 : Dev nD) (c640_i32_177 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_176 : BitVec 32 := 1024#32
  let v239 : BitVec 32 := Scalar.muli v19 c1024_i32_176
  let v240 : BitVec 32 := Scalar.addi v239 c640_i32_177
  let c0_i32_292 : BitVec 32 := 0#32
  ![v240.toNat, 0]
def k0_off6 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_296 : BitVec 32 := 1024#32
  let v409 : BitVec 32 := Scalar.muli v16 c1024_i32_296
  let c640_i32_297 : BitVec 32 := 640#32
  let v410 : BitVec 32 := Scalar.addi v409 c640_i32_297
  let c0_i32_304 : BitVec 32 := 0#32
  ![v410.toNat, 0]
def k0_dev19 (d0 : Dev nD) : Nat :=
  let c0_i32_301 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_300 : BitVec 32 := 4#32
  let v411 : BitVec 32 := Scalar.muli v2 c4_i32_300
  let v412 : BitVec 32 := Scalar.addi c0_i32_301 v411
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_302 : BitVec 32 := 2#32
  let v413 : BitVec 32 := Scalar.muli v5 c2_i32_302
  let v414 : BitVec 32 := Scalar.addi v412 v413
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_303 : BitVec 32 := 1#32
  let v415 : BitVec 32 := Scalar.muli v11 c1_i32_303
  let v416 : BitVec 32 := Scalar.addi v414 v415
  v416.toNat
def k0_off7 (d0 : Dev nD) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_311 : BitVec 32 := 1024#32
  let v429 : BitVec 32 := Scalar.muli v19 c1024_i32_311
  let c744_i32_312 : BitVec 32 := 744#32
  let v430 : BitVec 32 := Scalar.addi v429 c744_i32_312
  let c0_i32_319 : BitVec 32 := 0#32
  ![v430.toNat, 0]
def k0_dev20 (d0 : Dev nD) : Nat :=
  let c0_i32_316 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_315 : BitVec 32 := 4#32
  let v431 : BitVec 32 := Scalar.muli v2 c4_i32_315
  let v432 : BitVec 32 := Scalar.addi c0_i32_316 v431
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_317 : BitVec 32 := 2#32
  let v433 : BitVec 32 := Scalar.muli v10 c2_i32_317
  let v434 : BitVec 32 := Scalar.addi v432 v433
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_318 : BitVec 32 := 1#32
  let v435 : BitVec 32 := Scalar.muli v8 c1_i32_318
  let v436 : BitVec 32 := Scalar.addi v434 v435
  v436.toNat
def k0_off8 (d0 : Dev nD) (c640_i32_326 : BitVec 32) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_325 : BitVec 32 := 1024#32
  let v447 : BitVec 32 := Scalar.muli v16 c1024_i32_325
  let v448 : BitVec 32 := Scalar.addi v447 c640_i32_326
  let v449 : Index := Scalar.indexCast v448
  let c0_327 : Index := 0#32
  ![v449.toNat, 0]
def k0_off9 (d0 : Dev nD) (c640_i32_331 : BitVec 32) : Fin 2 → Nat :=
  let c2_i32_9 : BitVec 32 := 2#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v17 : BitVec 32 := Scalar.muli c2_i32_9 v5
  let c1_i32_10 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v18 : BitVec 32 := Scalar.subi c1_i32_10 v8
  let v19 : BitVec 32 := Scalar.addi v17 v18
  let c1024_i32_330 : BitVec 32 := 1024#32
  let v457 : BitVec 32 := Scalar.muli v19 c1024_i32_330
  let v458 : BitVec 32 := Scalar.addi v457 c640_i32_331
  let v459 : Index := Scalar.indexCast v458
  let c0_332 : Index := 0#32
  ![v459.toNat, 0]
def k0_dev21 (d0 : Dev nD) : Nat :=
  let c0_i32_348 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_347 : BitVec 32 := 4#32
  let v479 : BitVec 32 := Scalar.muli v2 c4_i32_347
  let v480 : BitVec 32 := Scalar.addi c0_i32_348 v479
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_349 : BitVec 32 := 2#32
  let v481 : BitVec 32 := Scalar.muli v10 c2_i32_349
  let v482 : BitVec 32 := Scalar.addi v480 v481
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_350 : BitVec 32 := 1#32
  let v483 : BitVec 32 := Scalar.muli v8 c1_i32_350
  let v484 : BitVec 32 := Scalar.addi v482 v483
  v484.toNat
def k0_dev22 (d0 : Dev nD) : Nat :=
  let c0_i32_356 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_355 : BitVec 32 := 4#32
  let v491 : BitVec 32 := Scalar.muli v2 c4_i32_355
  let v492 : BitVec 32 := Scalar.addi c0_i32_356 v491
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_357 : BitVec 32 := 2#32
  let v493 : BitVec 32 := Scalar.muli v5 c2_i32_357
  let v494 : BitVec 32 := Scalar.addi v492 v493
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_358 : BitVec 32 := 1#32
  let v495 : BitVec 32 := Scalar.muli v11 c1_i32_358
  let v496 : BitVec 32 := Scalar.addi v494 v495
  v496.toNat
def k0_off10 (d0 : Dev nD) : Fin 2 → Nat :=
  let c2_i32_8 : BitVec 32 := 2#32
  let c1_i32_7 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v14 : BitVec 32 := Scalar.subi c1_i32_7 v5
  let v15 : BitVec 32 := Scalar.muli c2_i32_8 v14
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v16 : BitVec 32 := Scalar.addi v15 v8
  let c1024_i32_383 : BitVec 32 := 1024#32
  let v535 : BitVec 32 := Scalar.muli v16 c1024_i32_383
  let c464_i32_384 : BitVec 32 := 464#32
  let v536 : BitVec 32 := Scalar.addi v535 c464_i32_384
  let c0_i32_391 : BitVec 32 := 0#32
  ![v536.toNat, 0]
def k0_dev23 (d0 : Dev nD) : Nat :=
  let c0_i32_388 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_387 : BitVec 32 := 4#32
  let v537 : BitVec 32 := Scalar.muli v2 c4_i32_387
  let v538 : BitVec 32 := Scalar.addi c0_i32_388 v537
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_389 : BitVec 32 := 2#32
  let v539 : BitVec 32 := Scalar.muli v5 c2_i32_389
  let v540 : BitVec 32 := Scalar.addi v538 v539
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_390 : BitVec 32 := 1#32
  let v541 : BitVec 32 := Scalar.muli v11 c1_i32_390
  let v542 : BitVec 32 := Scalar.addi v540 v541
  v542.toNat
def k0_dev24 (d0 : Dev nD) : Nat :=
  let c0_i32_420 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_419 : BitVec 32 := 4#32
  let v585 : BitVec 32 := Scalar.muli v2 c4_i32_419
  let v586 : BitVec 32 := Scalar.addi c0_i32_420 v585
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_421 : BitVec 32 := 2#32
  let v587 : BitVec 32 := Scalar.muli v10 c2_i32_421
  let v588 : BitVec 32 := Scalar.addi v586 v587
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_422 : BitVec 32 := 1#32
  let v589 : BitVec 32 := Scalar.muli v8 c1_i32_422
  let v590 : BitVec 32 := Scalar.addi v588 v589
  v590.toNat
def k0_dev25 (d0 : Dev nD) : Nat :=
  let c0_i32_428 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_427 : BitVec 32 := 4#32
  let v597 : BitVec 32 := Scalar.muli v2 c4_i32_427
  let v598 : BitVec 32 := Scalar.addi c0_i32_428 v597
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_429 : BitVec 32 := 2#32
  let v599 : BitVec 32 := Scalar.muli v5 c2_i32_429
  let v600 : BitVec 32 := Scalar.addi v598 v599
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_430 : BitVec 32 := 1#32
  let v601 : BitVec 32 := Scalar.muli v11 c1_i32_430
  let v602 : BitVec 32 := Scalar.addi v600 v601
  v602.toNat
def k0_dev26 (d0 : Dev nD) : Nat :=
  let c0_i32_461 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_460 : BitVec 32 := 4#32
  let v643 : BitVec 32 := Scalar.muli v2 c4_i32_460
  let v644 : BitVec 32 := Scalar.addi c0_i32_461 v643
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_462 : BitVec 32 := 2#32
  let v645 : BitVec 32 := Scalar.muli v5 c2_i32_462
  let v646 : BitVec 32 := Scalar.addi v644 v645
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_463 : BitVec 32 := 1#32
  let v647 : BitVec 32 := Scalar.muli v11 c1_i32_463
  let v648 : BitVec 32 := Scalar.addi v646 v647
  v648.toNat
def k0_dev27 (d0 : Dev nD) : Nat :=
  let c0_i32_493 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_492 : BitVec 32 := 4#32
  let v691 : BitVec 32 := Scalar.muli v2 c4_i32_492
  let v692 : BitVec 32 := Scalar.addi c0_i32_493 v691
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_494 : BitVec 32 := 2#32
  let v693 : BitVec 32 := Scalar.muli v10 c2_i32_494
  let v694 : BitVec 32 := Scalar.addi v692 v693
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_495 : BitVec 32 := 1#32
  let v695 : BitVec 32 := Scalar.muli v8 c1_i32_495
  let v696 : BitVec 32 := Scalar.addi v694 v695
  v696.toNat
def k0_dev28 (d0 : Dev nD) : Nat :=
  let c0_i32_501 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_500 : BitVec 32 := 4#32
  let v703 : BitVec 32 := Scalar.muli v2 c4_i32_500
  let v704 : BitVec 32 := Scalar.addi c0_i32_501 v703
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_502 : BitVec 32 := 2#32
  let v705 : BitVec 32 := Scalar.muli v5 c2_i32_502
  let v706 : BitVec 32 := Scalar.addi v704 v705
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_503 : BitVec 32 := 1#32
  let v707 : BitVec 32 := Scalar.muli v11 c1_i32_503
  let v708 : BitVec 32 := Scalar.addi v706 v707
  v708.toNat
def k0_dev29 (d0 : Dev nD) : Nat :=
  let c0_i32_534 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_533 : BitVec 32 := 4#32
  let v749 : BitVec 32 := Scalar.muli v2 c4_i32_533
  let v750 : BitVec 32 := Scalar.addi c0_i32_534 v749
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_535 : BitVec 32 := 2#32
  let v751 : BitVec 32 := Scalar.muli v10 c2_i32_535
  let v752 : BitVec 32 := Scalar.addi v750 v751
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_536 : BitVec 32 := 1#32
  let v753 : BitVec 32 := Scalar.muli v8 c1_i32_536
  let v754 : BitVec 32 := Scalar.addi v752 v753
  v754.toNat
def k0_dev30 (d0 : Dev nD) : Nat :=
  let c0_i32_566 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_565 : BitVec 32 := 4#32
  let v797 : BitVec 32 := Scalar.muli v2 c4_i32_565
  let v798 : BitVec 32 := Scalar.addi c0_i32_566 v797
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_567 : BitVec 32 := 2#32
  let v799 : BitVec 32 := Scalar.muli v10 c2_i32_567
  let v800 : BitVec 32 := Scalar.addi v798 v799
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_568 : BitVec 32 := 1#32
  let v801 : BitVec 32 := Scalar.muli v8 c1_i32_568
  let v802 : BitVec 32 := Scalar.addi v800 v801
  v802.toNat
def k0_dev31 (d0 : Dev nD) : Nat :=
  let c0_i32_574 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_573 : BitVec 32 := 4#32
  let v809 : BitVec 32 := Scalar.muli v2 c4_i32_573
  let v810 : BitVec 32 := Scalar.addi c0_i32_574 v809
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_575 : BitVec 32 := 2#32
  let v811 : BitVec 32 := Scalar.muli v5 c2_i32_575
  let v812 : BitVec 32 := Scalar.addi v810 v811
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_576 : BitVec 32 := 1#32
  let v813 : BitVec 32 := Scalar.muli v11 c1_i32_576
  let v814 : BitVec 32 := Scalar.addi v812 v813
  v814.toNat
def k0_dev32 (d0 : Dev nD) : Nat :=
  let c0_i32_607 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_606 : BitVec 32 := 4#32
  let v855 : BitVec 32 := Scalar.muli v2 c4_i32_606
  let v856 : BitVec 32 := Scalar.addi c0_i32_607 v855
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_608 : BitVec 32 := 2#32
  let v857 : BitVec 32 := Scalar.muli v10 c2_i32_608
  let v858 : BitVec 32 := Scalar.addi v856 v857
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_609 : BitVec 32 := 1#32
  let v859 : BitVec 32 := Scalar.muli v8 c1_i32_609
  let v860 : BitVec 32 := Scalar.addi v858 v859
  v860.toNat
def k0_dev33 (d0 : Dev nD) : Nat :=
  let c0_i32_639 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_638 : BitVec 32 := 4#32
  let v903 : BitVec 32 := Scalar.muli v2 c4_i32_638
  let v904 : BitVec 32 := Scalar.addi c0_i32_639 v903
  let c1_i32_4 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.subi c1_i32_4 v5
  let c2_i32_640 : BitVec 32 := 2#32
  let v905 : BitVec 32 := Scalar.muli v10 c2_i32_640
  let v906 : BitVec 32 := Scalar.addi v904 v905
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_641 : BitVec 32 := 1#32
  let v907 : BitVec 32 := Scalar.muli v8 c1_i32_641
  let v908 : BitVec 32 := Scalar.addi v906 v907
  v908.toNat
def k0_dev34 (d0 : Dev nD) : Nat :=
  let c0_i32_647 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_646 : BitVec 32 := 4#32
  let v915 : BitVec 32 := Scalar.muli v2 c4_i32_646
  let v916 : BitVec 32 := Scalar.addi c0_i32_647 v915
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_648 : BitVec 32 := 2#32
  let v917 : BitVec 32 := Scalar.muli v5 c2_i32_648
  let v918 : BitVec 32 := Scalar.addi v916 v917
  let c1_i32_5 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_5 v8
  let c1_i32_649 : BitVec 32 := 1#32
  let v919 : BitVec 32 := Scalar.muli v11 c1_i32_649
  let v920 : BitVec 32 := Scalar.addi v918 v919
  v920.toNat
def k0_off11 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_743 : BitVec 32 := 1024#32
  let v1067 : BitVec 32 := Scalar.muli v23 c1024_i32_743
  let v1068 : Index := Scalar.indexCast v1067
  let c0_744 : Index := 0#32
  ![v1068.toNat, 0]
def k0_off12 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_308 : BitVec 32 := 1024#32
  let v425 : BitVec 32 := Scalar.muli v23 c1024_i32_308
  let c640_i32_309 : BitVec 32 := 640#32
  let v426 : BitVec 32 := Scalar.addi v425 c640_i32_309
  let c0_i32_753 : BitVec 32 := 0#32
  ![v426.toNat, 0]
def k0_off13 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_323 : BitVec 32 := 1024#32
  let v445 : BitVec 32 := Scalar.muli v23 c1024_i32_323
  let c744_i32_324 : BitVec 32 := 744#32
  let v446 : BitVec 32 := Scalar.addi v445 c744_i32_324
  let c0_i32_761 : BitVec 32 := 0#32
  ![v446.toNat, 0]
def k0_off14 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_395 : BitVec 32 := 1024#32
  let v551 : BitVec 32 := Scalar.muli v23 c1024_i32_395
  let c464_i32_396 : BitVec 32 := 464#32
  let v552 : BitVec 32 := Scalar.addi v551 c464_i32_396
  let c0_i32_769 : BitVec 32 := 0#32
  ![v552.toNat, 0]
def k0_off15 (d0 : Dev nD) (c512_i32_469 : BitVec 32) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_468 : BitVec 32 := 1024#32
  let v657 : BitVec 32 := Scalar.muli v23 c1024_i32_468
  let v658 : BitVec 32 := Scalar.addi v657 c512_i32_469
  let c0_i32_777 : BitVec 32 := 0#32
  ![v658.toNat, 0]
def k0_off15_at (r : Fin 3) : BitVec 32 :=
  if r.val < 1 then
    512#32
  else
    if r.val < 2 then
      768#32
    else
      896#32
def k0_off16 (d0 : Dev nD) : Fin 2 → Nat :=
  let c2_i32_12 : BitVec 32 := 2#32
  let c1_i32_11 : BitVec 32 := 1#32
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v20 : BitVec 32 := Scalar.subi c1_i32_11 v5
  let v21 : BitVec 32 := Scalar.muli c2_i32_12 v20
  let c1_i32_13 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v22 : BitVec 32 := Scalar.subi c1_i32_13 v8
  let v23 : BitVec 32 := Scalar.addi v21 v22
  let c1024_i32_795 : BitVec 32 := 1024#32
  let v1136 : BitVec 32 := Scalar.muli v23 c1024_i32_795
  let c464_i32_796 : BitVec 32 := 464#32
  let v1137 : BitVec 32 := Scalar.addi v1136 c464_i32_796
  let v1138 : Index := Scalar.indexCast v1137
  let c0_797 : Index := 0#32
  ![v1138.toNat, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x1024 : Shape := ⟨2, ![8192, 1024]⟩
abbrev S2x4096x1024 : Shape := ⟨3, ![2, 4096, 1024]⟩
abbrev S_ : Shape := ⟨0, ![]⟩
abbrev S4096x1024 : Shape := ⟨2, ![4096, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S2x4096x1024, .f32⟩
  | .hbm, ⟨2, _⟩ => ⟨S_, .f32⟩
  | .hbm, ⟨3, _⟩ => ⟨S4096x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.Plan.lean ====
/-
# The plan of the transfers

The kernel moves the other half of the array to each of eight devices by thirty-one addressed transfers per device.
This module is the plan they follow, with no program in it: which neighbour a transfer goes to, which rows of the landing
buffer it fills, from which earlier landing it is fed, whose rows it carries, and at which place of the kernel's order it is
issued, waited for and drained. The transfers are numbered

* `0` … `7`   : the eight 128-row pieces of the device's own quarter, along x; `8`: 464 rows of the quarter diagonal to it, along x;
* `9` … `16`  : the eight pieces passed on along y; `17` … `24`: the same eight passed on along z;
* `25`, `26`, `27` : pieces passed on a second time, along z; `28`, `29`, `30`: along y.
-/
module

public import proofs.«01_k».proof.Proof.Gen.KernelIdeal
public import Idealize.ShloMosaic.Lib.Pipeline.Kit

@[expose] public section

noncomputable section

namespace Cert.MeshSum

open Cert.KernelIdeal Cert.KernelIdeal.Gen
open Idealize.ShloMosaic

/-- The transfers a device issues, and as many it receives. -/
abbrev Tr : Type := Fin 31

/-! ## The neighbours -/

/-- The bit of the device's number a link of the mesh changes: x, y, z. -/
abbrev linkBit : Fin 3 → ℕ := ![4, 2, 1]

/-- The neighbour of a device along a link: the device whose number differs in that link's bit. -/
def flip (l : Fin 3) (c : Dev nD) : Dev nD := ⟨(c.val ^^^ linkBit l) % 8, Nat.mod_lt _ (by decide)⟩

/-- Going along a link twice comes back. -/
theorem flip_flip : ∀ (l : Fin 3) (c : Dev nD), flip l (flip l c) = c := by decide +kernel

/-- The three neighbours of a device are different devices. -/
theorem flip_inj : ∀ (c : Dev nD) (l l' : Fin 3), flip l c = flip l' c → l = l' := by decide +kernel

/-- The link a transfer goes along. -/
abbrev link : Tr → Fin 3 :=
  ![0, 0, 0, 0, 0, 0, 0, 0, 0, 1, 1, 1, 1, 1, 1, 1, 1, 2, 2, 2, 2, 2, 2, 2, 2, 2, 2, 2, 1, 1, 1]

/-- The device a transfer of device `c` is addressed to; also the device whose transfer lands at `c`. -/
def peer (t : Tr) (c : Dev nD) : Dev nD := flip (link t) c

/-- A transfer's link taken twice comes back. -/
theorem peer_peer (t : Tr) (c : Dev nD) : peer t (peer t c) = c := flip_flip _ _

/-- The devices paired along a transfer's link. -/
def peerEquiv (t : Tr) : Dev nD ≃ Dev nD := ⟨peer t, peer t, peer_peer t, peer_peer t⟩

/-! ## The rows -/

/-- Which quarter of the rows a transfer fills, relative to the receiver's own: the bits of the quarter's number that differ. -/
abbrev quart : Tr → ℕ :=
  ![0, 0, 0, 0, 0, 0, 0, 0, 3, 2, 2, 2, 2, 2, 2, 2, 2, 1, 1, 1, 1, 1, 1, 1, 1, 3, 3, 3, 3, 3, 3]
/-- Where in the quarter it begins. -/
abbrev wofs : Tr → ℕ :=
  ![0, 128, 256, 384, 512, 640, 768, 896, 0, 0, 128, 256, 384, 512, 640, 768, 896, 0, 128, 256, 384, 512, 640, 768, 896,
    640, 464, 512, 744, 768, 896]
/-- How many rows it fills. -/
abbrev wsz : Tr → ℕ :=
  ![128, 128, 128, 128, 128, 128, 128, 128, 464, 128, 128, 128, 128, 128, 128, 128, 128, 128, 128, 128, 128, 128, 128, 128, 128,
    104, 48, 128, 24, 128, 128]
/-- The first row transfer `t` fills at device `c`. -/
def wlo (c : Dev nD) (t : Tr) : ℕ := 1024 * ((c.val % 4) ^^^ quart t) + wofs t

/-- The windows lie in the buffer. -/
theorem wlo_le : ∀ (c : Dev nD) (t : Tr), wlo c t + wsz t ≤ 4096 := by decide +kernel
/-- Two transfers' windows at one device do not meet. -/
theorem wlo_sep : ∀ (c : Dev nD) (t t' : Tr), t ≠ t' → wlo c t + wsz t ≤ wlo c t' ∨ wlo c t' + wsz t' ≤ wlo c t := by decide +kernel
/-- Every run of eight rows lies in some transfer's window. -/
theorem wlo_cover : ∀ (c : Dev nD) (b : Fin 512), ∃ t : Tr, wlo c t ≤ 8 * b.val ∧ 8 * b.val + 8 ≤ wlo c t + wsz t := by decide +kernel

/-! ## What feeds what -/

/-- The landing a transfer passes on (for a transfer of the device's own rows, itself: not used). -/
abbrev feed : Tr → Tr :=
  ![0, 1, 2, 3, 4, 5, 6, 7, 8, 0, 1, 2, 3, 4, 5, 6, 7, 0, 1, 2, 3, 4, 5, 6, 7, 14, 12, 13, 22, 23, 24]

/-- A transfer that passes rows on takes them from inside the window they landed in. -/
theorem feed_sub : ∀ (c : Dev nD) (t : Tr), 9 ≤ t.val →
    wlo c (feed t) ≤ wlo (peer t c) t ∧ wlo (peer t c) t + wsz t ≤ wlo c (feed t) + wsz (feed t) := by decide +kernel
/-- Two transfers of the device's own rows take different rows. -/
theorem own_sep : ∀ (c : Dev nD) (t t' : Tr), t.val < 9 → t'.val < 9 → t ≠ t' →
    wlo (peer t c) t + wsz t ≤ wlo (peer t' c) t' ∨ wlo (peer t' c) t' + wsz t' ≤ wlo (peer t c) t := by decide +kernel

/-- The device whose rows transfer `t` brings to device `c`: across x from `c`, and across y or z besides by as much as they were passed on. -/
def org (c : Dev nD) (t : Tr) : Dev nD :=
  if t.val < 9 then flip 0 c else if t.val < 17 then flip 0 (flip 1 c) else if t.val < 25 then flip 0 (flip 2 c)
  else flip 0 (flip 1 (flip 2 c))

/-- A transfer of the device's own rows brings the neighbour this device's. -/
theorem org_own : ∀ (c : Dev nD) (t : Tr), t.val < 9 → org (peer t c) t = c := by decide +kernel
/-- A transfer that passes rows on brings the neighbour the rows of the device they came from. -/
theorem org_pass : ∀ (c : Dev nD) (t : Tr), 9 ≤ t.val → org (peer t c) t = org c (feed t) := by decide +kernel
/-- Whatever lands at a device comes from across x. -/
theorem org_x : ∀ (c : Dev nD) (t : Tr), (org c t).val / 4 = 1 - c.val / 4 := by decide +kernel

/-! ## The order

The kernel's hundred and nineteen steps after its handshake — the issue of a transfer, the wait for a landing, the sum of a
window stored, the wait for a transfer of one's own to have left —, each at its place in the program. -/

/-- Where each transfer is issued, -/
abbrev sendAt : Tr → ℕ :=
  ![6, 7, 5, 1, 2, 0, 3, 4, 8, 55, 64, 46, 14, 18, 10, 28, 37, 56, 65, 47, 15, 19, 11, 29, 38, 23, 33, 42, 24, 51, 60]
/-- where its landing is waited for, -/
abbrev landAt : Tr → ℕ :=
  ![54, 63, 45, 13, 17, 9, 27, 36, 79, 71, 75, 67, 31, 40, 21, 49, 58, 72, 76, 68, 32, 41, 22, 50, 59, 81, 83, 84, 82, 85, 86]
/-- where the sum over its window is stored (`25`: over the windows of `25` … `30` at once; none for `26` … `30`), -/
abbrev addAt : Tr → ℕ :=
  ![57, 66, 48, 16, 20, 12, 30, 39, 80, 73, 77, 69, 34, 43, 25, 52, 61, 74, 78, 70, 35, 44, 26, 53, 62, 87, 1026, 1027, 1028, 1029, 1030]
/-- and where the device waits for its own transfer to have left. -/
abbrev drainAt : Tr → ℕ :=
  ![88, 89, 90, 91, 92, 93, 94, 95, 96, 103, 104, 102, 98, 99, 97, 100, 101, 111, 112, 110, 106, 107, 105, 108, 109, 113, 115, 116, 114, 117, 118]

/-- The level a landing is waited at: whatever a device still has to issue then is of a higher one. -/
abbrev lev : Tr → ℕ :=
  ![2, 2, 2, 2, 2, 2, 2, 2, 2, 5, 5, 4, 3, 3, 3, 4, 4, 5, 5, 4, 3, 3, 3, 4, 4, 4, 4, 4, 4, 5, 5]

/-- Landings are waited for above the barrier's level. -/
theorem lev_pos : ∀ t : Tr, 1 < lev t := by decide +kernel
/-- A device that waits for landing `t` has only transfers of higher levels left to issue. -/
theorem lev_lt : ∀ t s : Tr, landAt t ≤ sendAt s → lev t < lev s := by decide +kernel

/-- No two issues are at the same step. -/
theorem send_inj : ∀ s t : Tr, sendAt s = sendAt t → s = t := by decide +kernel
/-- No two landings are at the same step. -/
theorem land_inj : ∀ s t : Tr, landAt s = landAt t → s = t := by decide +kernel
/-- No two sums are at the same step. -/
theorem add_inj : ∀ s t : Tr, addAt s = addAt t → s = t := by decide +kernel
/-- No two departures are at the same step. -/
theorem drain_inj : ∀ s t : Tr, drainAt s = drainAt t → s = t := by decide +kernel
/-- Issues and landings are at different steps. -/
theorem send_ne_land : ∀ s t : Tr, sendAt s ≠ landAt t := by decide +kernel
/-- Issues and sums are at different steps. -/
theorem send_ne_add : ∀ s t : Tr, sendAt s ≠ addAt t := by decide +kernel
/-- Issues and departures are at different steps. -/
theorem send_ne_drain : ∀ s t : Tr, sendAt s ≠ drainAt t := by decide +kernel
/-- Landings and sums are at different steps. -/
theorem land_ne_add : ∀ s t : Tr, landAt s ≠ addAt t := by decide +kernel
/-- Landings and departures are at different steps. -/
theorem land_ne_drain : ∀ s t : Tr, landAt s ≠ drainAt t := by decide +kernel
/-- Sums and departures are at different steps. -/
theorem add_ne_drain : ∀ s t : Tr, addAt s ≠ drainAt t := by decide +kernel
/-- A transfer is issued before it is seen to have left. -/
theorem send_lt_drain : ∀ t : Tr, sendAt t < drainAt t := by decide +kernel
/-- Rows are passed on only after they have landed. -/
theorem feed_lt_send : ∀ t : Tr, 9 ≤ t.val → landAt (feed t) < sendAt t := by decide +kernel
/-- Every landing is waited for before the last step. -/
theorem land_lt : ∀ t : Tr, landAt t < 119 := by decide +kernel
/-- Every departure is waited for before the last step. -/
theorem drain_lt : ∀ t : Tr, drainAt t < 119 := by decide +kernel

/-! ## Where the transfers stand before step `i` -/

/-- The transfers still to issue, -/
def toSend (i : ℕ) : Finset Tr := Finset.univ.filter fun t => i ≤ sendAt t
/-- those issued and not seen to have left, -/
def flying (i : ℕ) : Finset Tr := Finset.univ.filter fun t => sendAt t < i ∧ i ≤ drainAt t
/-- those not seen to have left, issued or not, -/
def undrained (i : ℕ) : Finset Tr := Finset.univ.filter fun t => i ≤ drainAt t
/-- those seen to have left, -/
def drained (i : ℕ) : Finset Tr := Finset.univ.filter fun t => drainAt t < i
/-- those whose landing is still to be waited for, -/
def awaited (i : ℕ) : Finset Tr := Finset.univ.filter fun t => i ≤ landAt t
/-- those that have landed, -/
def landed (i : ℕ) : Finset Tr := Finset.univ.filter fun t => landAt t < i
/-- those whose source rows are here: the device's own, or landed, and not lent to the transfer, -/
def sources (i : ℕ) : Finset Tr :=
  Finset.univ.filter fun t => (t.val < 9 ∨ landAt (feed t) < i) ∧ ¬(sendAt t < i ∧ i ≤ drainAt t)
/-- and the windows whose sums are stored. -/
def added (i : ℕ) : Finset Tr := Finset.univ.filter fun t => addAt t < i
/-- The transfers fed by landing `p`. -/
def fedBy (p : Tr) : Finset Tr := Finset.univ.filter fun t => 9 ≤ t.val ∧ feed t = p

section Sets

/-- A set cut out of the transfers by a number per transfer does not change at a step none of them has. -/
theorem filter_lt_succ {f : Tr → ℕ} {i : ℕ} (h : ∀ t, f t ≠ i) :
    (Finset.univ.filter fun t => f t < i + 1) = Finset.univ.filter fun t => f t < i := by
  ext t; have := h t; simp only [Finset.mem_filter, Finset.mem_univ, true_and]; omega
/-- The same for a set cut from below. -/
theorem filter_le_succ {f : Tr → ℕ} {i : ℕ} (h : ∀ t, f t ≠ i) :
    (Finset.univ.filter fun t => i + 1 ≤ f t) = Finset.univ.filter fun t => i ≤ f t := by
  ext t; have := h t; simp only [Finset.mem_filter, Finset.mem_univ, true_and]; omega
/-- At the step of transfer `s` it gains, or loses, that transfer. -/
theorem filter_lt_insert {f : Tr → ℕ} {i : ℕ} {s : Tr} (hs : f s = i) (hf : ∀ t, f t = f s → t = s) :
    (Finset.univ.filter fun t => f t < i + 1) = insert s (Finset.univ.filter fun t => f t < i) := by
  ext t; simp only [Finset.mem_filter, Finset.mem_univ, true_and, Finset.mem_insert]
  constructor
  · intro h
    by_cases e : f t = i
    · exact .inl (hf t (e.trans hs.symm))
    · exact .inr (by omega)
  · rintro (rfl | h) <;> omega
/-- A set cut from below loses the transfer whose number is the step's. -/
theorem filter_le_insert {f : Tr → ℕ} {i : ℕ} {s : Tr} (hs : f s = i) (hf : ∀ t, f t = f s → t = s) :
    (Finset.univ.filter fun t => i ≤ f t) = insert s (Finset.univ.filter fun t => i + 1 ≤ f t) := by
  ext t; simp only [Finset.mem_filter, Finset.mem_univ, true_and, Finset.mem_insert]
  constructor
  · intro h
    by_cases e : f t = i
    · exact .inl (hf t (e.trans hs.symm))
    · exact .inr (by omega)
  · rintro (rfl | h) <;> omega

/-- The transfer of this step is not among those of earlier steps, -/
theorem not_mem_lt {f : Tr → ℕ} {i : ℕ} {s : Tr} (hs : f s = i) : s ∉ Finset.univ.filter fun t => f t < i := by
  simp only [Finset.mem_filter, Finset.mem_univ, true_and]; omega
/-- nor among those of later ones. -/
theorem not_mem_le {f : Tr → ℕ} {i : ℕ} {s : Tr} (hs : f s = i) : s ∉ Finset.univ.filter fun t => i + 1 ≤ f t := by
  simp only [Finset.mem_filter, Finset.mem_univ, true_and]; omega

/-! ### The issue of transfer `s` -/
section Send
variable {s : Tr} {i : ℕ} (h : sendAt s = i)
include h

/-- The issue of `s` takes it from the transfers still to issue. -/
theorem send_toSend : toSend i = insert s (toSend (i + 1)) := filter_le_insert h fun t => send_inj t s
/-- `s` is not among the transfers still to issue after the step. -/
theorem send_not_toSend : s ∉ toSend (i + 1) := not_mem_le h
/-- The issue of `s` adds it to the transfers in flight. -/
theorem send_flying : flying (i + 1) = insert s (flying i) := by
  ext t
  have h1 := send_lt_drain s; have h2 := send_ne_drain s t; have h3 := send_inj t s
  simp only [flying, Finset.mem_filter, Finset.mem_univ, true_and, Finset.mem_insert]
  constructor
  · rintro ⟨h4, h5⟩
    by_cases e : sendAt t = i
    · exact .inl (h3 (e.trans h.symm))
    · exact .inr (by omega)
  · rintro (rfl | h) <;> omega
/-- `s` is not among the transfers in flight before the step. -/
theorem send_not_flying : s ∉ flying i := by
  simp only [flying, Finset.mem_filter, Finset.mem_univ, true_and]; omega
/-- The issue of `s` leaves the transfers not seen to have left as they were. -/
theorem send_undrained : undrained (i + 1) = undrained i := filter_le_succ fun t e => send_ne_drain s t (h.trans e.symm)
/-- The issue of `s` leaves the transfers seen to have left as they were. -/
theorem send_drained : drained (i + 1) = drained i := filter_lt_succ fun t e => send_ne_drain s t (h.trans e.symm)
/-- The issue of `s` leaves the landings still to be waited for as they were. -/
theorem send_awaited : awaited (i + 1) = awaited i := filter_le_succ fun t e => send_ne_land s t (h.trans e.symm)
/-- The issue of `s` leaves the transfers that have landed as they were. -/
theorem send_landed : landed (i + 1) = landed i := filter_lt_succ fun t e => send_ne_land s t (h.trans e.symm)
/-- The issue of `s` leaves the windows whose sums are stored as they were. -/
theorem send_added : added (i + 1) = added i := filter_lt_succ fun t e => send_ne_add s t (h.trans e.symm)
/-- The issue of `s` takes it from the transfers whose source rows are here. -/
theorem send_sources : sources i = insert s (sources (i + 1)) := by
  ext t
  have h1 := send_lt_drain s; have h2 := send_ne_drain s t; have h3 := send_inj t s; have h6 := send_ne_land s (feed t)
  have h7 := feed_lt_send s
  simp only [sources, Finset.mem_filter, Finset.mem_univ, true_and, Finset.mem_insert]
  constructor
  · rintro ⟨h4, h5⟩
    by_cases e : sendAt t = i
    · exact .inl (h3 (e.trans h.symm))
    · exact .inr (by omega)
  · rintro (rfl | h) <;> omega
/-- `s` is not among the transfers whose source rows are here after the step. -/
theorem send_not_sources : s ∉ sources (i + 1) := by
  have h1 := send_lt_drain s
  simp only [sources, Finset.mem_filter, Finset.mem_univ, true_and]; omega
end Send

/-! ### The landing of transfer `s` waited for -/
section Land
variable {s : Tr} {i : ℕ} (h : landAt s = i)
include h

/-- The landing of `s` leaves the transfers still to issue as they were. -/
theorem land_toSend : toSend (i + 1) = toSend i := filter_le_succ fun t e => send_ne_land t s (e.trans h.symm)
/-- The landing of `s` leaves the transfers in flight as they were. -/
theorem land_flying : flying (i + 1) = flying i := by
  ext t
  have h1 := land_ne_drain s t; have h2 := send_ne_land t s
  simp only [flying, Finset.mem_filter, Finset.mem_univ, true_and]; omega
/-- The landing of `s` leaves the transfers not seen to have left as they were. -/
theorem land_undrained : undrained (i + 1) = undrained i := filter_le_succ fun t e => land_ne_drain s t (h.trans e.symm)
/-- The landing of `s` leaves the transfers seen to have left as they were. -/
theorem land_drained : drained (i + 1) = drained i := filter_lt_succ fun t e => land_ne_drain s t (h.trans e.symm)
/-- The landing of `s` takes it from the landings still to be waited for. -/
theorem land_awaited : awaited i = insert s (awaited (i + 1)) := filter_le_insert h fun t => land_inj t s
/-- `s` is not among the landings still to be waited for after the step. -/
theorem land_not_awaited : s ∉ awaited (i + 1) := not_mem_le h
/-- The landing of `s` adds it to the transfers that have landed. -/
theorem land_landed : landed (i + 1) = insert s (landed i) := filter_lt_insert h fun t => land_inj t s
/-- `s` is not among the transfers that have landed before the step. -/
theorem land_not_landed : s ∉ landed i := not_mem_lt h
/-- The landing of `s` leaves the windows whose sums are stored as they were. -/
theorem land_added : added (i + 1) = added i := filter_lt_succ fun t e => land_ne_add s t (h.trans e.symm)
/-- The landing of `s` adds the transfers that it feeds to the transfers whose source rows are here. -/
theorem land_sources : sources (i + 1) = fedBy s ∪ sources i := by
  ext t
  have h1 := land_ne_drain s t; have h2 := send_ne_land t s; have h3 := land_inj (feed t) s; have h4 := feed_lt_send t
  simp only [sources, fedBy, Finset.mem_filter, Finset.mem_univ, true_and, Finset.mem_union]
  constructor
  · rintro ⟨h5, h6⟩
    by_cases e : landAt (feed t) = i
    · by_cases h9 : t.val < 9
      · exact .inr (by omega)
      · exact .inl ⟨by omega, h3 (e.trans h.symm)⟩
    · exact .inr (by omega)
  · rintro (⟨h5, h6⟩ | h5)
    · rw [h6] at h4; rw [h6]; omega
    · omega
/-- The source rows that landing `s` brings were not here before it. -/
theorem land_disj : Disjoint (fedBy s) (sources i) := by
  rw [Finset.disjoint_left]
  intro t h1 h2
  simp only [sources, fedBy, Finset.mem_filter, Finset.mem_univ, true_and] at h1 h2
  rw [h1.2] at h2; omega
end Land

/-! ### The sum over window `s` stored -/
section Add
variable {s : Tr} {i : ℕ} (h : addAt s = i)
include h

/-- The sum of `s` leaves the transfers still to issue as they were. -/
theorem add_toSend : toSend (i + 1) = toSend i := filter_le_succ fun t e => send_ne_add t s (e.trans h.symm)
/-- The sum of `s` leaves the transfers in flight as they were. -/
theorem add_flying : flying (i + 1) = flying i := by
  ext t
  have h1 := add_ne_drain s t; have h2 := send_ne_add t s
  simp only [flying, Finset.mem_filter, Finset.mem_univ, true_and]; omega
/-- The sum of `s` leaves the transfers not seen to have left as they were. -/
theorem add_undrained : undrained (i + 1) = undrained i := filter_le_succ fun t e => add_ne_drain s t (h.trans e.symm)
/-- The sum of `s` leaves the transfers seen to have left as they were. -/
theorem add_drained : drained (i + 1) = drained i := filter_lt_succ fun t e => add_ne_drain s t (h.trans e.symm)
/-- The sum of `s` leaves the landings still to be waited for as they were. -/
theorem add_awaited : awaited (i + 1) = awaited i := filter_le_succ fun t e => land_ne_add t s (e.trans h.symm)
/-- The sum of `s` leaves the transfers that have landed as they were. -/
theorem add_landed : landed (i + 1) = landed i := filter_lt_succ fun t e => land_ne_add t s (e.trans h.symm)
/-- The sum of `s` adds it to the windows whose sums are stored. -/
theorem add_added : added (i + 1) = insert s (added i) := filter_lt_insert h fun t => add_inj t s
/-- The sum of `s` leaves the transfers whose source rows are here as they were. -/
theorem add_sources : sources (i + 1) = sources i := by
  ext t
  have h1 := add_ne_drain s t; have h2 := send_ne_add t s; have h3 := land_ne_add (feed t) s
  simp only [sources, Finset.mem_filter, Finset.mem_univ, true_and]; omega
end Add

/-! ### Transfer `s` seen to have left -/
section Drain
variable {s : Tr} {i : ℕ} (h : drainAt s = i)
include h

/-- The departure of `s` leaves the transfers still to issue as they were. -/
theorem drain_toSend : toSend (i + 1) = toSend i := filter_le_succ fun t e => send_ne_drain t s (e.trans h.symm)
/-- The departure of `s` takes it from the transfers in flight. -/
theorem drain_flying : flying i = insert s (flying (i + 1)) := by
  ext t
  have h1 := send_lt_drain s; have h2 := send_ne_drain t s; have h3 := drain_inj t s
  simp only [flying, Finset.mem_filter, Finset.mem_univ, true_and, Finset.mem_insert]
  constructor
  · rintro ⟨h4, h5⟩
    by_cases e : drainAt t = i
    · exact .inl (h3 (e.trans h.symm))
    · exact .inr (by omega)
  · rintro (rfl | h) <;> omega
/-- `s` is not among the transfers in flight after the step. -/
theorem drain_not_flying : s ∉ flying (i + 1) := by
  simp only [flying, Finset.mem_filter, Finset.mem_univ, true_and]; omega
/-- The departure of `s` takes it from the transfers not seen to have left. -/
theorem drain_undrained : undrained i = insert s (undrained (i + 1)) := filter_le_insert h fun t => drain_inj t s
/-- `s` is not among the transfers not seen to have left after the step. -/
theorem drain_not_undrained : s ∉ undrained (i + 1) := not_mem_le h
/-- The departure of `s` adds it to the transfers seen to have left. -/
theorem drain_drained : drained (i + 1) = insert s (drained i) := filter_lt_insert h fun t => drain_inj t s
/-- `s` is not among the transfers seen to have left before the step. -/
theorem drain_not_drained : s ∉ drained i := not_mem_lt h
/-- The departure of `s` leaves the landings still to be waited for as they were. -/
theorem drain_awaited : awaited (i + 1) = awaited i := filter_le_succ fun t e => land_ne_drain t s (e.trans h.symm)
/-- The departure of `s` leaves the transfers that have landed as they were. -/
theorem drain_landed : landed (i + 1) = landed i := filter_lt_succ fun t e => land_ne_drain t s (e.trans h.symm)
/-- The departure of `s` leaves the windows whose sums are stored as they were. -/
theorem drain_added : added (i + 1) = added i := filter_lt_succ fun t e => add_ne_drain t s (e.trans h.symm)
/-- The departure of `s` adds it to the transfers whose source rows are here. -/
theorem drain_sources : sources (i + 1) = insert s (sources i) := by
  ext t
  have h1 := send_lt_drain s; have h2 := send_ne_drain t s; have h3 := drain_inj t s; have h6 := land_ne_drain (feed t) s
  have h7 := feed_lt_send s
  simp only [sources, Finset.mem_filter, Finset.mem_univ, true_and, Finset.mem_insert]
  constructor
  · rintro ⟨h4, h5⟩
    by_cases e : drainAt t = i
    · exact .inl (h3 (e.trans h.symm))
    · exact .inr (by omega)
  · rintro (rfl | h) <;> omega
/-- `s` is not among the transfers whose source rows are here before the step. -/
theorem drain_not_sources : s ∉ sources i := by
  have h1 := send_lt_drain s
  simp only [sources, Finset.mem_filter, Finset.mem_univ, true_and]; omega
end Drain

/-! ### The first step and the last -/

/-- At the start the transfers still to issue are all. -/
theorem toSend_zero : toSend 0 = Finset.univ := by decide +kernel
/-- At the start the transfers in flight are none. -/
theorem flying_zero : flying 0 = ∅ := by decide +kernel
/-- At the start the transfers not seen to have left are all. -/
theorem undrained_zero : undrained 0 = Finset.univ := by decide +kernel
/-- At the start the transfers seen to have left are none. -/
theorem drained_zero : drained 0 = ∅ := by decide +kernel
/-- At the start the landings still to be waited for are all. -/
theorem awaited_zero : awaited 0 = Finset.univ := by decide +kernel
/-- At the start the transfers that have landed are none. -/
theorem landed_zero : landed 0 = ∅ := by decide +kernel
/-- At the start the windows whose sums are stored are none. -/
theorem added_zero : added 0 = ∅ := by decide +kernel
/-- At the start the device's own rows are all it can send. -/
theorem sources_zero : sources 0 = Finset.univ.filter fun t : Tr => t.val < 9 := by decide +kernel

/-- At the end the transfers still to issue are none. -/
theorem toSend_end : toSend 119 = ∅ := by decide +kernel
/-- At the end the transfers in flight are none. -/
theorem flying_end : flying 119 = ∅ := by decide +kernel
/-- At the end the transfers not seen to have left are none. -/
theorem undrained_end : undrained 119 = ∅ := by decide +kernel
/-- At the end the transfers seen to have left are all. -/
theorem drained_end : drained 119 = Finset.univ := by decide +kernel
/-- At the end the landings still to be waited for are none. -/
theorem awaited_end : awaited 119 = ∅ := by decide +kernel
/-- At the end the transfers that have landed are all. -/
theorem landed_end : landed 119 = Finset.univ := by decide +kernel
/-- At the end the transfers whose source rows are here are all. -/
theorem sources_end : sources 119 = Finset.univ := by decide +kernel
/-- At the end every sum is stored: one for each of the first 26 transfers. -/
theorem added_end : added 119 = Finset.univ.filter fun t : Tr => t.val < 26 := by decide +kernel

end Sets

end Cert.MeshSum

end
-- ==== Proof.Windows.lean ====
/-
# The windows of the landing buffer, and what they hold

The buffers of a device as bands of rows: the window each transfer fills, the rows it is taken from, the contents they come to
hold, and the shares of them that the transfers and the additions use. A landed window is split in two: the left half is kept, for
the addition to read; the right half is dealt to the transfers that pass the window's rows on.
-/
module

public import proofs.«01_k».proof.Proof.Plan
public import proofs.«01_k».proof.Proof.Gen.KernelIdeal.Skeleton
public import proofs.«01_k».proof.Proof.Gen.KernelIdeal.Launch
public import Idealize.ShloMosaic.Lib.Pipeline.Launch
public import Idealize.ShloMosaic.Lib.Tactic

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resources -/

/-- The rounds of the mesh's semaphores; a duty is named by the link it comes over. -/
abbrev UM : Type := URounds (GSem nD τ sig) (Fin 3)
/-- Beside them the staging pipeline's own. -/
abbrev UU : Type := UR sig nD τ × UM

local notation "𝕄" => MT nD τ sig Unit (Elt F) ℕ UU ℕ

/-- Where the pipeline's tokens are kept, -/
abbrev EP : Emb (UR sig nD τ) (MT nD τ sig Unit (Elt F) ℕ UU ℕ) := embL
/-- and where the schedule's are. -/
abbrev EM : Emb UM (MT nD τ sig Unit (Elt F) ℕ UU ℕ) := embR

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-! ## Bands of rows -/

/-- The `n` rows from row `lo` on. -/
def band (lo n : ℕ) : Finset S4096x1024.Idx := Finset.univ.filter fun i => lo ≤ (i 0).val ∧ (i 0).val < lo + n

/-- A band is the elements whose row is in its range. -/
theorem mem_band {lo n : ℕ} {i : S4096x1024.Idx} : i ∈ band lo n ↔ lo ≤ (i 0).val ∧ (i 0).val < lo + n := by
  unfold band; rw [Finset.mem_filter]; exact and_iff_right (Finset.mem_univ _)

/-- Bands one after the other do not meet. -/
theorem band_disj {lo n lo' n' : ℕ} (h : lo + n ≤ lo' ∨ lo' + n' ≤ lo) : Disjoint (band lo n) (band lo' n') := by
  rw [Finset.disjoint_left]; intro i hi hi'
  rw [mem_band] at hi hi'; omega

/-- A band inside another's range is inside it. -/
theorem band_sub {lo n lo' n' : ℕ} (h : lo' ≤ lo ∧ lo + n ≤ lo' + n') : band lo n ⊆ band lo' n' := fun i hi => by
  rw [mem_band] at hi ⊢; omega

/-- A rectangle of whole rows is a band. -/
theorem rect_band {off sz : Fin 2 → ℕ} {lo n : ℕ} (ho : off = ![lo, 0]) (hs : sz = ![n, 1024]) (inb) :
    (Rect.unit (s := S4096x1024) off sz inb).set = band lo n := by
  subst ho hs
  ext i
  rw [Rect.mem_set_unit, mem_band]
  constructor
  · intro h; exact h 0
  · intro h a
    have h1 : (i 1).val < 1024 := (i 1).isLt
    fin_cases a
    · exact h
    · show 0 ≤ (i 1).val ∧ (i 1).val < 0 + 1024
      omega

/-- The rows transfer `t` fills at device `c`. -/
def W (c : Dev nD) (t : Tr) : Finset S4096x1024.Idx := band (wlo c t) (wsz t)
/-- The rows device `c` takes transfer `t` from: the same rows as it fills at the neighbour. -/
def Src (c : Dev nD) (t : Tr) : Finset S4096x1024.Idx := W (peer t c) t

/-- Two transfers' windows do not meet; -/
theorem W_disj (c : Dev nD) {t t' : Tr} (h : t ≠ t') : Disjoint (W c t) (W c t') := band_disj (wlo_sep c t t' h)
/-- nor do those of any two of a set. -/
theorem W_disj_all (c : Dev nD) (S : Finset Tr) : ∀ t ∈ S, ∀ t' ∈ S, t ≠ t' → Disjoint (W c t) (W c t') := fun _ _ _ _ h => W_disj c h
/-- Rows passed on lie in the window that they landed in. -/
theorem Src_sub (c : Dev nD) (t : Tr) (h : 9 ≤ t.val) : Src c t ⊆ W c (feed t) := band_sub (feed_sub c t h)
/-- Two transfers of the device's own rows take different rows. -/
theorem Src_disj (c : Dev nD) {t t' : Tr} (ht : t.val < 9) (ht' : t'.val < 9) (h : t ≠ t') : Disjoint (Src c t) (Src c t') :=
  band_disj (own_sep c t t' ht ht' h)

/-- Every row is in some window. -/
theorem W_cover (c : Dev nD) (i : S4096x1024.Idx) : ∃ t, i ∈ W c t := by
  have h0 : (i 0).val < 4096 := (i 0).isLt
  obtain ⟨t, h1, h2⟩ := wlo_cover c ⟨(i 0).val / 8, by omega⟩
  refine ⟨t, ?_⟩
  unfold W; rw [mem_band]; dsimp only at h1 h2; omega
/-- The windows make up the whole buffer. -/
theorem W_union (c : Dev nD) : Finset.univ.biUnion (W c) = (Finset.univ : Finset S4096x1024.Idx) :=
  Finset.eq_univ_iff_forall.mpr fun i => by
    obtain ⟨t, h⟩ := W_cover c i
    exact Finset.mem_biUnion.mpr ⟨t, Finset.mem_univ _, h⟩

/-! ## Contents -/

/-- An array of the kernel's shape. -/
abbrev Arr (F : FTy → Type) : Type := S4096x1024.Idx → Elt F .f32

/-- Device `c`'s block of `x`, as its staging buffer holds it. -/
def xstg (c : Dev nD) : Arr F := (win0_0.blk (0 : Fin 1)).view.read (Elt F) ((s₀ m ρ).mem ((c : Thread nD τ).loc main_arg0))

/-- The transfer that brings device `c` a row. -/
def bringer (c : Dev nD) (i : S4096x1024.Idx) : Tr := (W_cover c i).choose
/-- The transfer that brings a row is the one whose window it is in. -/
theorem bringer_eq (c : Dev nD) {t : Tr} {i : S4096x1024.Idx} (h : i ∈ W c t) : bringer c i = t := by
  by_contra hn
  exact Finset.disjoint_left.mp (W_disj c hn) (W_cover c i).choose_spec h

/-- What device `c`'s landing buffer comes to hold: each row from the block of the device whose rows its transfer carries. -/
def rem (c : Dev nD) : Arr F := fun i => xstg m ρ (org c (bringer c i)) i
/-- What lands in a transfer's window is the rows of the device that they come from. -/
theorem rem_eq (c : Dev nD) {t : Tr} {i : S4096x1024.Idx} (h : i ∈ W c t) : rem m ρ c i = xstg m ρ (org c t) i := by
  unfold rem; rw [bringer_eq c h]

/-- What a transfer of the device's own rows leaves at the neighbour is the neighbour's. -/
theorem rem_own (c : Dev nD) {t : Tr} (ht : t.val < 9) {i : S4096x1024.Idx} (h : i ∈ Src c t) : xstg m ρ c i = rem m ρ (peer t c) i := by
  rw [rem_eq m ρ (peer t c) h, org_own c t ht]
/-- So is what a transfer that passes rows on leaves there. -/
theorem rem_pass (c : Dev nD) {t : Tr} (ht : 9 ≤ t.val) {i : S4096x1024.Idx} (h : i ∈ Src c t) : rem m ρ c i = rem m ρ (peer t c) i := by
  rw [rem_eq m ρ (peer t c) h, org_pass c t ht, rem_eq m ρ c (Src_sub c t ht h)]

/-- The kernel's result on device `c`: its own block and the landed one, added. -/
def outAt (c : Dev nD) : Arr F := addf (F := F) (s := S4096x1024) (φ := .f32) (xstg m ρ c) (rem m ρ c)

/-! ## Points-tos -/

/-- Device `c` holds rows of its block of `x`, -/
def xPts (c : Dev nD) (K : Finset S4096x1024.Idx) (q : PosShare TreeShare) (f : Arr F) : sProp 𝕄 :=
  ((c : Thread nD τ).loc cc0_stg0_0) ↦[K]{q} f
/-- of its result, -/
def oPts (c : Dev nD) (K : Finset S4096x1024.Idx) (q : PosShare TreeShare) (f : Arr F) : sProp 𝕄 :=
  ((c : Thread nD τ).loc cc0_stg1_0) ↦[K]{q} f
/-- of its landing buffer. -/
def rPts (c : Dev nD) (K : Finset S4096x1024.Idx) (q : PosShare TreeShare) (f : Arr F) : sProp 𝕄 :=
  ((c : Thread nD τ).loc cc0_scratch0) ↦[K]{q} f

/-- Owned rows of `x` can be handed over. -/
instance xPts_storable (c : Dev nD) (K q) (f : Arr F) : BI.Storable (upEmb : UEmb _ 𝕄) (xPts c K q f) := by unfold xPts; infer_instance
/-- Owned rows of the landing buffer can be handed over. -/
instance rPts_storable (c : Dev nD) (K q) (f : Arr F) : BI.Storable (upEmb : UEmb _ 𝕄) (rPts c K q f) := by unfold rPts; infer_instance

/-- The share of its source rows a transfer uses: half of `x`; of a landed window, a quarter if two transfers pass it on, else half. -/
def share (t : Tr) : PosShare TreeShare :=
  if t.val < 9 then fullShare.right else if t.val < 17 then fullShare.right.left else if t.val < 25 then fullShare.right.right else fullShare.right

/-- What device `c` lends transfer `t`. -/
def srcPts (c : Dev nD) (t : Tr) : sProp 𝕄 :=
  if t.val < 9 then xPts c (Src c t) (share t) (xstg m ρ c) else rPts c (Src c t) (share t) (rem m ρ c)

/-- The rows lent to a transfer can be handed over. -/
instance srcPts_storable (c : Dev nD) (t : Tr) : BI.Storable (upEmb : UEmb _ 𝕄) (srcPts m ρ c t) := by unfold srcPts; split <;> infer_instance

/-- The rows of a landed window no transfer passes on. -/
def restOf (c : Dev nD) (p : Tr) : Finset S4096x1024.Idx := W c p \ (fedBy p).biUnion (Src c)

/-- A piece that lands along x is passed on twice, along y and along z. -/
theorem fedBy_two : ∀ p : Tr, p.val < 8 → ∃ a b : Tr, a ≠ b ∧ fedBy p = {a, b} ∧ 9 ≤ a.val ∧ a.val < 17 ∧ 17 ≤ b.val ∧ b.val < 25 := by decide +kernel
/-- Any other landing is passed on once or not at all. -/
theorem fedBy_one : ∀ p : Tr, 8 ≤ p.val → fedBy p = ∅ ∨ ∃ a : Tr, fedBy p = {a} ∧ 25 ≤ a.val := by decide +kernel
/-- The two transfers that pass an own-quarter window on pass all of it. -/
theorem Src_all : ∀ (c : Dev nD) (t : Tr), 9 ≤ t.val → t.val < 25 → wlo (peer t c) t = wlo c (feed t) ∧ wsz t = wsz (feed t) := by decide +kernel

/-- A transfer fed by a landing passes rows on, and takes them from it. -/
theorem feed_of_mem {p t : Tr} (h : t ∈ fedBy p) : 9 ≤ t.val ∧ feed t = p := by
  unfold fedBy at h; exact (Finset.mem_filter.mp h).2

omit [FloatOps F] in
/-- The right half of a landed window, dealt to the transfers it feeds. -/
theorem deal (c : Dev nD) (p : Tr) :
    (rPts c (W c p) fullShare.right (rem m ρ c) : sProp 𝕄)
      ⊣⊢ iprop(bigSep (fedBy p) (srcPts m ρ c) ∗ rPts c (restOf c p) fullShare.right (rem m ρ c)) := by
  have hsrc (t : Tr) (h : 9 ≤ t.val) : srcPts m ρ c t = rPts c (Src c t) (share t) (rem m ρ c) := by
    unfold srcPts; rw [if_neg (by omega)]
  by_cases hp : p.val < 8
  · obtain ⟨a, b, hab, hf, ha, ha', hb, hb'⟩ := fedBy_two p hp
    have hfa : feed a = p := (feed_of_mem (hf ▸ Finset.mem_insert_self _ _)).2
    have hfb : feed b = p := (feed_of_mem (hf ▸ Finset.mem_insert_of_mem (Finset.mem_singleton_self _))).2
    have hSa : Src c a = W c p := by
      unfold Src W; obtain ⟨h1, h2⟩ := Src_all c a ha (by omega); rw [h1, h2, hfa]
    have hSb : Src c b = W c p := by
      unfold Src W; obtain ⟨h1, h2⟩ := Src_all c b (by omega) hb'; rw [h1, h2, hfb]
    have hr : restOf c p = ∅ := by
      unfold restOf; rw [hf, Finset.biUnion_insert, Finset.singleton_biUnion, hSa, hSb, Finset.union_self, Finset.sdiff_self]
    rw [hr, hf, bigSep_insert (Finset.notMem_singleton.mpr hab), bigSep_singleton, hsrc a ha, hsrc b (by omega), hSa, hSb]
    unfold share rPts
    rw [if_neg (by omega), if_pos ha', if_neg (by omega), if_neg (by omega), if_pos hb', pointsTo_empty]
    exact (pointsTo_share (PosShare.mem_left_op_right fullShare.right)).trans ⟨(sep_emp (PROP := sProp 𝕄)).2, (sep_emp (PROP := sProp 𝕄)).1⟩
  · rcases fedBy_one p (by omega) with hf | ⟨a, hf, ha⟩
    · unfold restOf
      rw [hf, Finset.biUnion_empty, Finset.sdiff_empty, bigSep_empty]
      exact ⟨(emp_sep (PROP := sProp 𝕄)).2, (emp_sep (PROP := sProp 𝕄)).1⟩
    · have hfa : feed a = p := (feed_of_mem (hf ▸ Finset.mem_singleton_self _)).2
      unfold restOf
      rw [hf, Finset.singleton_biUnion, bigSep_singleton, hsrc a (by omega)]
      unfold share rPts
      rw [if_neg (by omega), if_neg (by omega), if_neg (by omega)]
      exact pointsTo_split_subset (hfa ▸ Src_sub c a (by omega))

omit [FloatOps F] in
/-- A landed window: the left half kept, the right half dealt. -/
theorem land_split (c : Dev nD) (p : Tr) :
    (rPts c (W c p) fullShare (rem m ρ c) : sProp 𝕄)
      ⊣⊢ iprop(rPts c (W c p) fullShare.left (rem m ρ c) ∗ bigSep (fedBy p) (srcPts m ρ c) ∗ rPts c (restOf c p) fullShare.right (rem m ρ c)) := by
  have h : (rPts c (W c p) fullShare (rem m ρ c) : sProp 𝕄)
      ⊣⊢ iprop(rPts c (W c p) fullShare.left (rem m ρ c) ∗ rPts c (W c p) fullShare.right (rem m ρ c)) := by
    unfold rPts; exact pointsTo_share (PosShare.mem_left_op_right fullShare)
  exact ⟨h.1.trans (sep_mono_right (deal m ρ c p).1), (sep_mono_right (deal m ρ c p).2).trans h.2⟩

/-- The transfers of a device's own rows. -/
def ownTr : Finset Tr := Finset.univ.filter fun t => t.val < 9

omit [FloatOps F] in
/-- The device's block of `x`: the left half kept, of the right half the rows its transfers take, and the other rows. -/
theorem x_split (c : Dev nD) :
    (xPts c Finset.univ fullShare (xstg m ρ c) : sProp 𝕄)
      ⊣⊢ iprop(xPts c Finset.univ fullShare.left (xstg m ρ c) ∗ bigSep ownTr (srcPts m ρ c)
          ∗ xPts c (Finset.univ \ ownTr.biUnion (Src c)) fullShare.right (xstg m ρ c)) := by
  have h1 : (xPts c Finset.univ fullShare (xstg m ρ c) : sProp 𝕄)
      ⊣⊢ iprop(xPts c Finset.univ fullShare.left (xstg m ρ c) ∗ xPts c Finset.univ fullShare.right (xstg m ρ c)) := by
    unfold xPts; exact pointsTo_share (PosShare.mem_left_op_right fullShare)
  have h2 : (xPts c Finset.univ fullShare.right (xstg m ρ c) : sProp 𝕄)
      ⊣⊢ iprop(xPts c (ownTr.biUnion (Src c)) fullShare.right (xstg m ρ c)
          ∗ xPts c (Finset.univ \ ownTr.biUnion (Src c)) fullShare.right (xstg m ρ c)) := by
    unfold xPts; exact pointsTo_split_subset (Finset.subset_univ _)
  have h3 : (xPts c (ownTr.biUnion (Src c)) fullShare.right (xstg m ρ c) : sProp 𝕄) = bigSep ownTr (srcPts m ρ c) := by
    have ho (t : Tr) (h : t ∈ ownTr) : t.val < 9 := (Finset.mem_filter.mp h).2
    have hd : ∀ t ∈ ownTr, ∀ t' ∈ ownTr, t ≠ t' → Disjoint (Src c t) (Src c t') := fun t ht t' ht' hn => Src_disj c (ho t ht) (ho t' ht') hn
    have hb : (xPts c (ownTr.biUnion (Src c)) fullShare.right (xstg m ρ c) : sProp 𝕄)
        = bigSep ownTr fun t => xPts c (Src c t) fullShare.right (xstg m ρ c) := by
      unfold xPts; exact pointsTo_biUnion _ _ hd
    rw [hb]
    refine bigSep_congr fun t ht => ?_
    unfold srcPts share
    rw [if_pos (ho t ht), if_pos (ho t ht)]
  rw [h3] at h2
  exact ⟨h1.1.trans (sep_mono_right h2.1), (sep_mono_right h2.2).trans h1.2⟩

omit [FloatOps F] in
/-- The landing buffer put together again, every window landed and every loan back. -/
theorem r_whole (c : Dev nD) :
    iprop(rPts c (Finset.univ.biUnion (W c)) fullShare.left (rem m ρ c)
        ∗ bigSep (Finset.univ.filter fun t : Tr => 9 ≤ t.val) (srcPts m ρ c)
        ∗ bigSep Finset.univ (fun p => rPts c (restOf c p) fullShare.right (rem m ρ c)))
      ⊢ (rPts c Finset.univ fullShare (rem m ρ c) : sProp 𝕄) := by
  have hf : (Finset.univ.filter fun t : Tr => 9 ≤ t.val) = Finset.univ.biUnion fedBy := by
    ext t
    simp only [Finset.mem_filter, Finset.mem_univ, true_and, Finset.mem_biUnion, fedBy]
    exact ⟨fun h => ⟨feed t, h, rfl⟩, fun ⟨_, h, _⟩ => h⟩
  have hd : ∀ p ∈ (Finset.univ : Finset Tr), ∀ p' ∈ (Finset.univ : Finset Tr), p ≠ p' → Disjoint (fedBy p) (fedBy p') := fun p _ p' _ hn =>
    Finset.disjoint_left.mpr fun t h h' => hn ((feed_of_mem h).2.symm.trans (feed_of_mem h').2)
  have hl : (rPts c (Finset.univ.biUnion (W c)) fullShare.left (rem m ρ c) : sProp 𝕄)
      = bigSep Finset.univ fun p => rPts c (W c p) fullShare.left (rem m ρ c) := by
    unfold rPts; exact pointsTo_biUnion _ _ (W_disj_all c _)
  have hw : (rPts c Finset.univ fullShare (rem m ρ c) : sProp 𝕄)
      = bigSep Finset.univ fun p => rPts c (W c p) fullShare (rem m ρ c) := by
    rw [← W_union c]; unfold rPts; exact pointsTo_biUnion _ _ (W_disj_all c _)
  rw [hf, bigSep_biUnion_eq _ _ _ hd, hl, hw, ← bigSep_sep', ← bigSep_sep']
  exact bigSep_mono fun p _ => (land_split m ρ c p).2

end Cert.MeshSum

end
-- ==== Proof.Schedule.lean ====
/-
# The semaphores' rounds

Each device has sixty-three semaphores of its own and of the runtime's that the kernel uses: the runtime's barrier, and for each
transfer the one its sender waits on and the one its receiver waits on. Each goes through one round. On the barrier's round each of the
three neighbours hands over the windows of its landing buffer that this device's transfers fill; on a landing's round the sender hands
over the window filled; on a departure's round the device gets back the rows it lent.
-/
module

public import proofs.«01_k».proof.Proof.Windows

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The runtime's barrier semaphore. -/
abbrev barS : Sem sig := (SemArray.scalar (sig.barrier 0 rfl) : Sems sig S_).sem

/-- The semaphore transfer `t`'s sender waits on, -/
def sS (t : Tr) : DmaSem sig :=
  ⟨if t.val < 9 then 2 + t.val else if t.val < 17 then 11 + t.val else if t.val < 25 then 19 + t.val else 27 + t.val, by
    have := t.isLt; show _ < 64; split <;> [skip; split <;> [skip; split]] <;> omega⟩
/-- and its receiver's. -/
def rS (t : Tr) : DmaSem sig :=
  ⟨if t.val < 9 then 11 + t.val else if t.val < 17 then 19 + t.val else if t.val < 25 then 27 + t.val else 33 + t.val, by
    have := t.isLt; show _ < 64; split <;> [skip; split <;> [skip; split]] <;> omega⟩

/-- The cells of a device: the barrier's, -/
abbrev barCell (c : Dev nD) : GSem nD τ sig := ((c : Thread nD τ), .reg barS)
/-- a departure's, -/
abbrev sCell (c : Dev nD) (t : Tr) : GSem nD τ sig := ((c : Thread nD τ), .dma (sS t))
/-- a landing's. -/
abbrev rCell (c : Dev nD) (t : Tr) : GSem nD τ sig := ((c : Thread nD τ), .dma (rS t))

/-- The transfer a semaphore counts the departures of, if any; -/
def sentBy (q : DmaSem sig) : Option Tr := (List.finRange 31).find? fun t => sS t = q
/-- the landings of. -/
def landsAt (q : DmaSem sig) : Option Tr := (List.finRange 31).find? fun t => rS t = q

/-- The tables read back which transfer a semaphore serves: a departure's, -/
theorem sentBy_sS : ∀ t : Tr, sentBy (sS t) = some t := by decide +kernel
/-- a landing's; -/
theorem landsAt_rS : ∀ t : Tr, landsAt (rS t) = some t := by decide +kernel
/-- a departure's semaphore counts no landing. -/
theorem landsAt_sS : ∀ t : Tr, landsAt (sS t) = none := by decide +kernel

/-- The units a transfer moves its semaphores by. -/
def N (t : Tr) : ℕ := RefSig.tileCredit ⟨2, ![wsz t, 1024]⟩ .f32
/-- Every transfer moves something. -/
theorem N_pos : ∀ t : Tr, 0 < N t := by decide +kernel

/-! ## The schedule -/

/-- The transfers over a link. -/
def over (l : Fin 3) : Finset Tr := Finset.univ.filter fun t => link t = l

/-- Somebody's rows a transfer fills, holding anything. -/
def dstPts (c : Dev nD) (t : Tr) : sProp 𝕄 := iprop(∃ f, rPts (peer t c) (Src c t) fullShare f)
/-- What the neighbour over link `l` hands device `c` at the barrier: its windows that `c`'s transfers over that link fill. -/
def barPay (c : Dev nD) (l : Fin 3) : sProp 𝕄 := bigSep (over l) (dstPts (F := F) c)
/-- What a landing hands the receiver: the window, filled. -/
def recvPay (c : Dev nD) (t : Tr) : sProp 𝕄 := rPts c (W c t) fullShare (rem m ρ c)

/-- A window to be filled can be handed over. -/
instance dstPts_storable (c : Dev nD) (t : Tr) : BI.Storable (upEmb : UEmb _ 𝕄) (dstPts (F := F) c t) := by unfold dstPts; infer_instance
/-- What a signal hands over can be. -/
instance barPay_storable (c : Dev nD) (l : Fin 3) : BI.Storable (upEmb : UEmb _ 𝕄) (barPay (F := F) c l) := by unfold barPay; infer_instance
/-- What a landing hands over can be. -/
instance recvPay_storable (c : Dev nD) (t : Tr) : BI.Storable (upEmb : UEmb _ 𝕄) (recvPay m ρ c t) := by unfold recvPay; infer_instance

/-- What the rows a DMA semaphore's unit hands over are. -/
def dmaPay (c : Dev nD) (q : DmaSem sig) : sProp 𝕄 :=
  match landsAt q with
  | some t => recvPay m ρ c t
  | none => match sentBy q with
    | some t => srcPts m ρ c t
    | none => iprop(emp)
/-- The units of it. -/
def dmaUnits (q : DmaSem sig) : ℕ :=
  match landsAt q with
  | some t => N t
  | none => match sentBy q with
    | some t => N t
    | none => 1

/-- Every transfer's semaphore counts at least one unit. -/
theorem dmaUnits_pos (q : DmaSem sig) : 0 < dmaUnits q := by
  unfold dmaUnits
  split
  · exact N_pos _
  · split
    · exact N_pos _
    · exact Nat.one_pos

/-- One round: a barrier's three duties of one unit, named by their links; a transfer's one, of its units. -/
def meshRd : Rounds.Schedule (GSem nD τ sig) (Fin 3) 𝕄 where
  duties g r := if r = 0 ∧ g.1.2 = .tc then (match g.2 with
      | .reg s => if s = barS then Finset.univ else ∅
      | .dma q => if (landsAt q).isSome ∨ (sentBy q).isSome then {0} else ∅) else ∅
  unitless _ := False
  amount g _ _ := match g.2 with
    | .reg _ => 1
    | .dma q => dmaUnits q
  payload g _ d := match g.2 with
    | .reg s => if s = barS then barPay (F := F) g.1.1 d else iprop(emp)
    | .dma q => dmaPay m ρ g.1.1 q
  amount_pos g _ _ _ := by
    split
    · exact Nat.one_pos
    · exact dmaUnits_pos _

/-- Whatever a duty of the schedule hands over can be handed over. -/
instance meshRd_payload_storable (g : GSem nD τ sig) (r : ℕ) (d : Fin 3) :
    BI.Storable (upEmb : UEmb _ 𝕄) ((meshRd (F := F) m ρ).payload g r d) := by
  obtain ⟨⟨c, p⟩, sm | q⟩ := g
  · show BI.Storable upEmb (if sm = barS then barPay (F := F) c d else iprop(emp))
    split <;> infer_instance
  · show BI.Storable upEmb (dmaPay m ρ c q)
    unfold dmaPay
    split
    · infer_instance
    · split <;> infer_instance

section Rounds
variable (c : Dev nD) (t : Tr)

omit [FloatOps F] in
/-- The barrier's round has three duties, one for each neighbour; -/
theorem duties_bar : (meshRd (F := F) m ρ).duties (barCell c) 0 = Finset.univ := by dsimp only [meshRd]; rw [if_pos ⟨rfl, rfl⟩, if_pos rfl]
omit [FloatOps F] in
/-- a departure's has one, -/
theorem duties_send : (meshRd (F := F) m ρ).duties (sCell c t) 0 = {0} := by
  dsimp only [meshRd]; rw [if_pos ⟨rfl, rfl⟩, if_pos (.inr (by rw [sentBy_sS]; rfl))]
omit [FloatOps F] in
/-- a landing's too, -/
theorem duties_recv : (meshRd (F := F) m ρ).duties (rCell c t) 0 = {0} := by
  dsimp only [meshRd]; rw [if_pos ⟨rfl, rfl⟩, if_pos (.inl (by rw [landsAt_rS]; rfl))]
omit [FloatOps F] in
/-- and there is no second round. -/
theorem duties_later (g : GSem nD τ sig) : ∀ r, 1 ≤ r → (meshRd (F := F) m ρ).duties g r = ∅ :=
  fun r hr => by dsimp only [meshRd]; exact if_neg fun h => by omega

omit [FloatOps F] in
/-- A signal is one unit, -/
theorem amount_bar (d : Fin 3) : (meshRd (F := F) m ρ).amount (barCell c) 0 d = 1 := rfl
omit [FloatOps F] in
/-- a departure the transfer's units, -/
theorem amount_send (d : Fin 3) : (meshRd (F := F) m ρ).amount (sCell c t) 0 d = N t := by
  dsimp only [meshRd]; unfold dmaUnits; rw [landsAt_sS, sentBy_sS]
omit [FloatOps F] in
/-- a landing the same. -/
theorem amount_recv (d : Fin 3) : (meshRd (F := F) m ρ).amount (rCell c t) 0 d = N t := by
  dsimp only [meshRd]; unfold dmaUnits; rw [landsAt_rS]

omit [FloatOps F] in
/-- So the barrier's round is three units, -/
theorem expect_bar : (meshRd (F := F) m ρ).expect (barCell c) 0 = 3 := by
  unfold Schedule.expect Schedule.amountOf
  rw [duties_bar]; rfl
omit [FloatOps F] in
/-- a departure's the transfer's, -/
theorem expect_send : (meshRd (F := F) m ρ).expect (sCell c t) 0 = N t := by
  unfold Schedule.expect Schedule.amountOf; rw [duties_send, Finset.sum_singleton, amount_send]
omit [FloatOps F] in
/-- a landing's the same. -/
theorem expect_recv : (meshRd (F := F) m ρ).expect (rCell c t) 0 = N t := by
  unfold Schedule.expect Schedule.amountOf; rw [duties_recv, Finset.sum_singleton, amount_recv]

omit [FloatOps F] in
/-- A signal hands over the windows that the signalled device will fill, -/
theorem payload_bar (d : Fin 3) : (meshRd (F := F) m ρ).payload (barCell c) 0 d = barPay c d := by dsimp only [meshRd]; exact if_pos rfl
omit [FloatOps F] in
/-- a departure gives back the rows lent, -/
theorem payload_send (d : Fin 3) : (meshRd (F := F) m ρ).payload (sCell c t) 0 d = srcPts m ρ c t := by
  dsimp only [meshRd]; unfold dmaPay; rw [landsAt_sS, sentBy_sS]
omit [FloatOps F] in
/-- a landing hands over the window filled. -/
theorem payload_recv (d : Fin 3) : (meshRd (F := F) m ρ).payload (rCell c t) 0 d = recvPay m ρ c t := by
  dsimp only [meshRd]; unfold dmaPay; rw [landsAt_rS]

omit [FloatOps F] in
/-- A barrier's round, whole: for every transfer the rows it fills. -/
theorem rest_bar : bigSep ((meshRd (F := F) m ρ).duties (barCell c) 0 \ ∅) (fun d => (meshRd (F := F) m ρ).payload (barCell c) 0 d)
    = bigSep Finset.univ (dstPts (F := F) c) := by
  rw [Finset.sdiff_empty, duties_bar, bigSep_congr fun d _ => payload_bar m ρ c d]
  unfold barPay
  rw [← bigSep_biUnion_eq Finset.univ over (dstPts (F := F) c) fun l _ l' _ hn => Finset.disjoint_left.mpr fun t h h' =>
    hn ((Finset.mem_filter.mp h).2.symm.trans (Finset.mem_filter.mp h').2)]
  congr 1
  ext t
  simp only [Finset.mem_biUnion, Finset.mem_univ, true_and, over, Finset.mem_filter, exists_eq']
omit [FloatOps F] in
/-- What a departure's wait collects: the rows lent. -/
theorem rest_send : bigSep ((meshRd (F := F) m ρ).duties (sCell c t) 0 \ ∅) (fun d => (meshRd (F := F) m ρ).payload (sCell c t) 0 d) = srcPts m ρ c t := by
  rw [Finset.sdiff_empty, duties_send, bigSep_singleton, payload_send]
omit [FloatOps F] in
/-- What a landing's wait collects: the window filled. -/
theorem rest_recv : bigSep ((meshRd (F := F) m ρ).duties (rCell c t) 0 \ ∅) (fun d => (meshRd (F := F) m ρ).payload (rCell c t) 0 d) = recvPay m ρ c t := by
  rw [Finset.sdiff_empty, duties_recv, bigSep_singleton, payload_recv]

end Rounds

/-! ## What a device owes; the levels -/

/-- The landings the transfers `S` of device `c` owe the neighbours. -/
def owed (c : Dev nD) (S : Finset Tr) : CellTallies nD τ sig Unit := ∑ t ∈ S, tallyAt (rCell (peer t c) t) () (N t)

/-- At the launch: all of them, and a unit of each neighbour's barrier. -/
def O₀ (c : Dev nD) : CellTallies nD τ sig Unit :=
  owed c Finset.univ + tallyAt (barCell (flip 2 c)) () 1 + tallyAt (barCell (flip 1 c)) () 1 + tallyAt (barCell (flip 0 c)) () 1

/-- Levels are kept on the cells of the devices' cores. -/
def L (g : GSem nD τ sig) : Finset Unit := if g.1.2 = .tc then {()} else ∅
/-- The barrier is waited at level 1, each landing at its own, a departure and the staging at 0. -/
def lv (g : GSem nD τ sig) (_ : Unit) : ℕ := match g.2 with
  | .reg _ => 1
  | .dma q => match landsAt q with
    | some t => lev t
    | none => 0

/-- Nowhere else, -/
theorem L_of_ne (g : GSem nD τ sig) (h : g.1.2 ≠ .tc) : L g = ∅ := if_neg h
/-- and on every one of those. -/
theorem L_tc (c : Dev nD) (sm : SemLoc sig) : L ((c : Thread nD τ), sm) = {()} := if_pos rfl
/-- The barrier's level is one, -/
theorem lv_bar (c : Dev nD) : lv (barCell c) () = 1 := rfl
/-- a landing's is the table's, -/
theorem lv_recv (c : Dev nD) (t : Tr) : lv (rCell c t) () = lev t := by dsimp only [lv]; rw [landsAt_rS]
/-- a departure's is zero. -/
theorem lv_send (c : Dev nD) (t : Tr) : lv (sCell c t) () = 0 := by dsimp only [lv]; rw [landsAt_sS]

/-- What is owed for a set of transfers is owed to their landings. -/
theorem owed_pos {c : Dev nD} {S : Finset Tr} {g : GSem nD τ sig} {u : Unit} (h : 0 < owed c S g u) : ∃ t ∈ S, g = rCell (peer t c) t := by
  unfold owed at h
  induction S using Finset.induction_on with
  | empty => rw [Finset.sum_empty] at h; exact absurd h (Nat.lt_irrefl 0)
  | insert t S ht ih =>
    rw [Finset.sum_insert ht, Pi.add_apply, Finsupp.add_apply, tallyAt_apply] at h
    by_cases e : g = rCell (peer t c) t ∧ u = ()
    · exact ⟨t, Finset.mem_insert_self _ _, e.1⟩
    · rw [if_neg e, Nat.zero_add] at h
      obtain ⟨t', h1, h2⟩ := ih h
      exact ⟨t', Finset.mem_insert_of_mem h1, h2⟩

/-- Units on one cell are on that cell. -/
theorem tally_pos {a g : GSem nD τ sig} {n : ℕ} {u : Unit} (h : 0 < tallyAt a () n g u) : g = a := by
  rw [tallyAt_apply] at h
  by_contra hn
  rw [if_neg fun h' => hn h'.1] at h
  exact absurd h (Nat.lt_irrefl 0)

/-- A sum that is positive has a positive part. -/
theorem add_pos_or {A B : CellTallies nD τ sig Unit} {g : GSem nD τ sig} {u : Unit} (h : 0 < (A + B) g u) : 0 < A g u ∨ 0 < B g u := by
  rw [Pi.add_apply, Finsupp.add_apply] at h; omega

/-- What a device owes at the start is owed to its neighbours' barriers and landings. -/
theorem O₀_pos {c : Dev nD} {g : GSem nD τ sig} {u : Unit} (h : 0 < O₀ c g u) :
    (∃ t, g = rCell (peer t c) t) ∨ ∃ l, g = barCell (flip l c) := by
  unfold O₀ at h
  rcases add_pos_or h with h | h
  · rcases add_pos_or h with h | h
    · rcases add_pos_or h with h | h
      · obtain ⟨t, _, ht⟩ := owed_pos h; exact .inl ⟨t, ht⟩
      · exact .inr ⟨2, tally_pos h⟩
    · exact .inr ⟨1, tally_pos h⟩
  · exact .inr ⟨0, tally_pos h⟩

omit [FloatOps F] in
/-- A device may wait on a semaphore of its own that is below every landing it owes. -/
theorem mayWait_owed (c : Dev nD) (sm : SemLoc sig) (S : Finset Tr) (h : ∀ s ∈ S, lv ((c : Thread nD τ), sm) () < lev s) :
    (levAts L lv : sProp 𝕄) ⊢ MayWait (c : Thread nD τ) sm () (owed c S) :=
  MayOwe.of_cut (lv ((c : Thread nD τ), sm) ()) (fun p hp => by rw [Finset.mem_singleton.mp hp, L_tc]; exact Finset.mem_singleton_self _)
    (fun g u hg => by obtain ⟨t, _, rfl⟩ := owed_pos hg; exact Finset.mem_singleton_self _)
    (fun p hp => by rw [Finset.mem_singleton.mp hp])
    (fun g u hg => by obtain ⟨t, ht, rfl⟩ := owed_pos hg; rw [lv_recv]; exact h t ht)

omit [FloatOps F] in
/-- A staging semaphore may be waited on whatever the device owes. -/
theorem mayWait_stage (c : Dev nD) (q : DmaSem sig) (hq : landsAt q = none) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨t, rfl⟩ | ⟨l, rfl⟩ <;> exact Finset.mem_singleton_self _)
      (fun p hp => by rw [Finset.mem_singleton.mp hp]; dsimp only [lv]; rw [hq])
      (fun g u hg => by
        rcases O₀_pos hg with ⟨t, rfl⟩ | ⟨l, rfl⟩
        · rw [lv_recv]; have := lev_pos t; omega
        · exact Nat.one_pos)
  · rw [MayWait_zero]; iintro -; iempintro

/-! ## The semaphores by name, and their invariants -/

/-- A device's semaphores: the barrier, and of each transfer the sender's (`false`) and the receiver's (`true`). -/
abbrev Own : Type := Bool × Tr
/-- The kernel's own semaphores, -/
def osem : Own → SemLoc sig := fun k => .dma (if k.1 then rS k.2 else sS k.2)
/-- and with them the barrier, -/
def csem : Option Own → SemLoc sig
  | none => .reg barS
  | some k => osem k
/-- on every device. -/
def kcell (ck : Dev nD × Option Own) : GSem nD τ sig := ((ck.1 : Thread nD τ), csem ck.2)

/-- What is known of every semaphore of the mesh: its invariant, and that its round is open. -/
def records (K : Dev nD × Option Own → ℕ) : sProp 𝕄 :=
  iprop((bigSep Finset.univ fun ck => cellInv EM (meshRd m ρ) (K ck) (kcell ck)) ∗ bigSep Finset.univ fun ck => reached EM (kcell ck) 0)

/-- The records may be used any number of times. -/
instance records_persistent (K : Dev nD × Option Own → ℕ) : BI.Persistent (records m ρ K) := by unfold records; infer_instance

section Records
variable (K : Dev nD × Option Own → ℕ) (c : Dev nD) (t : Tr)

omit [FloatOps F] in
/-- The records hold each cell's invariant, -/
theorem inv_at (ck : Dev nD × Option Own) : records m ρ K ⊢ cellInv EM (meshRd m ρ) (K ck) (kcell ck) := by
  unfold records; exact sep_elim_left.trans (bigSep_elim (Finset.mem_univ ck))
omit [FloatOps F] in
/-- and that its round has been reached. -/
theorem reached_at (ck : Dev nD × Option Own) : records m ρ K ⊢ reached EM (kcell ck) 0 := by
  unfold records; exact sep_elim_right.trans (bigSep_elim (Finset.mem_univ ck))

omit [FloatOps F] in
/-- In particular the barrier's invariant, -/
theorem inv_bar : records m ρ K ⊢ cellInv EM (meshRd m ρ) (K (c, none)) (barCell c) := inv_at m ρ K (c, none)
omit [FloatOps F] in
/-- a departure's, -/
theorem inv_send : records m ρ K ⊢ cellInv EM (meshRd m ρ) (K (c, some (false, t))) (sCell c t) := inv_at m ρ K (c, some (false, t))
omit [FloatOps F] in
/-- a landing's; -/
theorem inv_recv : records m ρ K ⊢ cellInv EM (meshRd m ρ) (K (c, some (true, t))) (rCell c t) := inv_at m ρ K (c, some (true, t))
omit [FloatOps F] in
/-- that the barrier's round has been reached, -/
theorem reached_bar : records m ρ K ⊢ reached EM (barCell c) 0 := reached_at m ρ K (c, none)
omit [FloatOps F] in
/-- a departure's, -/
theorem reached_send : records m ρ K ⊢ reached EM (sCell c t) 0 := reached_at m ρ K (c, some (false, t))
omit [FloatOps F] in
/-- a landing's. -/
theorem reached_recv : records m ρ K ⊢ reached EM (rCell c t) 0 := reached_at m ρ K (c, some (true, t))

end Records

end Cert.MeshSum

end
-- ==== Proof.Steps.lean ====
/-
# The steps of a device's run

After the barrier a device's run is a list of sends, landings, additions and departures; between two of them it holds what `Inv` says.
Each lemma here takes one of them off the front of a program.
-/
module

public import proofs.«01_k».proof.Proof.Schedule

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The program has no loop that needs a variant. -/
abbrev 𝒱₀ : Variants := Variants.none
/-- The kernel's arrays: its block of `x`, -/
abbrev xM : Memref sig .tc .vmem S4096x1024 .f32 := Memref.whole cc0_stg0_0
/-- its result, -/
abbrev oM : Memref sig .tc .vmem S4096x1024 .f32 := Memref.whole cc0_stg1_0
/-- its landing buffer. -/
abbrev rM : Memref sig .tc .vmem S4096x1024 .f32 := Memref.whole cc0_scratch0

/-! ## Between two steps -/

/-- The rows addition `t` writes: the window `t`, save the last addition, of the six windows from 25 on, which lie side by side. -/
def addBand (c : Dev nD) (t : Tr) : Finset S4096x1024.Idx := if t.val = 25 then band (wlo c 26) 560 else W c t

/-- What the device has for a transfer not yet sent. -/
def toGo (c : Dev nD) (t : Tr) : sProp 𝕄 :=
  iprop(dutyTok EM (sCell c t) 0 0 ∗ dutyTok EM (rCell (peer t c) t) 0 0 ∗ dstPts c t)
/-- For one whose landing it awaits. -/
def toCome (c : Dev nD) (t : Tr) : sProp 𝕄 := iprop(cred (tallyAt (rCell c t) () (N t)) ∗ atPos EM (rCell c t) 0 ∅ 0)
/-- For one that has landed: the semaphore at zero, and the rows nobody else borrows. -/
def come (c : Dev nD) (t : Tr) : sProp 𝕄 := iprop(semVal (rCell c t) 0 ∗ rPts c (restOf c t) fullShare.right (rem m ρ c))

/-- What device `c` owes before step `i`, -/
def owing (c : Dev nD) (i : ℕ) : sProp 𝕄 := iprop(∃ Wt, owes (c : Thread nD τ) (owed c (toSend i)) Wt)
/-- and its result so far: right on the rows added. -/
def outSoFar (c : Dev nD) (i : ℕ) : sProp 𝕄 :=
  iprop(∃ g : Arr F, ⌜∀ t ∈ added i, ∀ y ∈ addBand c t, g y = outAt m ρ c y⌝ ∗ oPts c Finset.univ fullShare g)

/-- What no step uses: the barrier's semaphore, past its round, and the half of the block's rows that no transfer takes. -/
def aside (c : Dev nD) : sProp 𝕄 :=
  iprop(semVal (barCell c) 0 ∗ xPts c (Finset.univ \ ownTr.biUnion (Src c)) fullShare.right (xstg m ρ c))

/-- What device `c` holds before step `i`. -/
def Inv (K : Dev nD × Option Own → ℕ) (c : Dev nD) (i : ℕ) : sProp 𝕄 :=
  iprop(records m ρ K ∗ levAts L lv ∗ owing c i
    ∗ bigSep (toSend i) (toGo (F := F) c)
    ∗ bigSep (flying i) (fun t => cred (tallyAt (sCell c t) () (N t)))
    ∗ bigSep (undrained i) (fun t => atPos EM (sCell c t) 0 ∅ 0)
    ∗ bigSep (drained i) (fun t => semVal (sCell c t) 0)
    ∗ bigSep (sources i) (srcPts m ρ c)
    ∗ bigSep (awaited i) (toCome (F := F) c)
    ∗ bigSep (landed i) (come m ρ c)
    ∗ rPts c ((landed i).biUnion (W c)) fullShare.left (rem m ρ c)
    ∗ xPts c Finset.univ fullShare.left (xstg m ρ c)
    ∗ aside m ρ c
    ∗ outSoFar m ρ c i)

variable (K : Dev nD × Option Own → ℕ) (c : Dev nD)

/-! ## Through a rectangle of rows -/

section Rect
variable {off sz : Fin 2 → ℕ} {inb : ∀ a, off a + sz a ≤ S4096x1024.size a}

omit [FloatOps F] in
/-- A row copied between two buffers at the same place is the row. -/
theorem copied_x (fd fs : Arr F) {hr} {y : S4096x1024.Idx} (hy : y ∈ (Rect.unit (s := S4096x1024) off sz inb).set) :
    (rM.slice (Rect.unit (s := S4096x1024) off sz inb) hr).view.write (Elt F) fd
      ((xM.slice (Rect.unit (s := S4096x1024) off sz inb) hr).view.read (Elt F) fs) Finset.univ y = fs y := by
  rw [← View.set_slice_whole cc0_scratch0] at hy
  obtain ⟨j, -, rfl⟩ := Finset.mem_map.mp hy
  exact View.write_emb_of_mem (v := (View.whole cc0_scratch0).slice (Rect.unit (s := S4096x1024) off sz inb)) _ _ (Finset.mem_univ j)
omit [FloatOps F] in
/-- Rows copied from the landing buffer are the rows that were there. -/
theorem copied_r (fd fs : Arr F) {hr} {y : S4096x1024.Idx} (hy : y ∈ (Rect.unit (s := S4096x1024) off sz inb).set) :
    (rM.slice (Rect.unit (s := S4096x1024) off sz inb) hr).view.write (Elt F) fd
      ((rM.slice (Rect.unit (s := S4096x1024) off sz inb) hr).view.read (Elt F) fs) Finset.univ y = fs y := by
  rw [← View.set_slice_whole cc0_scratch0] at hy
  obtain ⟨j, -, rfl⟩ := Finset.mem_map.mp hy
  exact View.write_emb_of_mem (v := (View.whole cc0_scratch0).slice (Rect.unit (s := S4096x1024) off sz inb)) _ _ (Finset.mem_univ j)
omit [FloatOps F] in
/-- A stored value, at a row stored; -/
theorem stored_in (g : Arr F) (w : (Rect.unit (s := S4096x1024) off sz inb).shape.Idx → Elt F .f32) (j) :
    (oM.access (Rect.unit (s := S4096x1024) off sz inb)).write (Elt F) g w Finset.univ ((Rect.unit (s := S4096x1024) off sz inb).emb j) = w j :=
  View.write_emb_of_mem (v := (View.whole cc0_stg1_0).slice (Rect.unit (s := S4096x1024) off sz inb)) _ _ (Finset.mem_univ j)
omit [FloatOps F] in
/-- elsewhere. -/
theorem stored_off (g : Arr F) (w : (Rect.unit (s := S4096x1024) off sz inb).shape.Idx → Elt F .f32) {y : S4096x1024.Idx}
    (hy : y ∉ (Rect.unit (s := S4096x1024) off sz inb).set) :
    (oM.access (Rect.unit (s := S4096x1024) off sz inb)).write (Elt F) g w Finset.univ y = g y :=
  View.write_of_not_mem (v := (View.whole cc0_stg1_0).slice (Rect.unit (s := S4096x1024) off sz inb)) _ _ _
    (by rw [View.setOn_univ, View.set_slice_whole]; exact hy)

/-- What a load of a rectangle of rows reads of contents `f`. -/
def rows (f : Arr F) (off sz : Fin 2 → ℕ) (inb : ∀ a, off a + sz a ≤ S4096x1024.size a) :
    (Rect.unit (s := S4096x1024) off sz inb).shape.Idx → Elt F .f32 := fun j => f ((Rect.unit (s := S4096x1024) off sz inb).emb j)

end Rect

/-! ## The steps -/

section Steps
variable {i : ℕ}

omit [FloatOps F] in
/-- One transfer's part, taken out of the others'. -/
theorem bigSep_out {t : Tr} {S : Finset Tr} (h : t ∉ S) (f : Tr → sProp 𝕄) : bigSep (insert t S) f = iprop(f t ∗ bigSep S f) := bigSep_insert h

omit [FloatOps F] in
/-- Issuing a transfer takes it off what is owed. -/
theorem owing_send {t : Tr} (hi : sendAt t = i) :
    (owing c i : sProp 𝕄) = iprop(∃ Wt, owes (c : Thread nD τ) (owed c (toSend (i + 1)) + tallyAt (rCell (peer t c) t) () (N t)) Wt) := by
  unfold owing owed
  rw [send_toSend hi, Finset.sum_insert (send_not_toSend hi), add_comm]
omit [FloatOps F] in
/-- A step that issues nothing leaves what is owed as it was. -/
theorem owing_congr {j : ℕ} (h : toSend j = toSend i) : (owing c j : sProp 𝕄) = owing c i := by unfold owing; rw [h]
/-- A step that stores no sum leaves the result as it was. -/
theorem outSoFar_congr {j : ℕ} (h : added j = added i) : (outSoFar m ρ c j : sProp 𝕄) = outSoFar m ρ c i := by unfold outSoFar; rw [h]

/-- A transfer of the device's own rows goes. -/
theorem step_send_own {α : Type} {Q : α → sProp 𝕄} {t : Tr} (hi : sendAt t = i) (ht : t.val < 9) {n : Dev nD} (hn : n = peer t c)
    {off sz : Fin 2 → ℕ} (ho : off = ![wlo (peer t c) t, 0]) (hz : sz = ![wsz t, 1024]) {inb} {hr}
    {sA sB : SemLoc sig} (hA : sA = .dma (sS t)) (hB : sB = .dma (rS t))
    {hsc} {hsrc : (xM.slice (Rect.unit (s := S4096x1024) off sz inb) hr).view.WordExact}
    {hdst : (rM.slice (Rect.unit (s := S4096x1024) off sz inb) hr : Memref sig (Dev.tc n : Thread nD τ).2.kind .vmem _ .f32).view.WordExact}
    {hsem} {k : PUnit → Prog (TpuEff nD τ sig (Elt F) Λ₀ .tc) α}
    (hk : Inv m ρ K c (i + 1) ⊢ wp frame (wpE (defs₀ (F := F)) 𝒱₀ (c : Thread nD τ) none) Set.univ (k ⟨⟩) Q) :
    Inv m ρ K c i ⊢ wp frame (wpE (defs₀ (F := F)) 𝒱₀ (c : Thread nD τ) none) Set.univ
      (.op (.enqueueDma (p := .tc) (xM.slice (Rect.unit (s := S4096x1024) off sz inb) hr)
        (.remote (Dev.tc n) (rM.slice (Rect.unit (s := S4096x1024) off sz inb) hr) sA hsc) sB hsrc hdst hsem) k) Q := by
  subst hn hA hB ho hz
  have hS : (Rect.unit (s := S4096x1024) ![wlo (peer t c) t, 0] ![wsz t, 1024] inb).set = Src c t := rect_band rfl rfl inb
  have hA : (xM.slice (Rect.unit (s := S4096x1024) ![wlo (peer t c) t, 0] ![wsz t, 1024] inb) hr).view.set = Src c t := (View.set_slice_whole _ _).trans hS
  have hB : (rM.slice (Rect.unit (s := S4096x1024) ![wlo (peer t c) t, 0] ![wsz t, 1024] inb) hr : Memref sig .tc .vmem _ .f32).view.set = Src c t := (View.set_slice_whole _ _).trans hS
  have hsrcE : srcPts m ρ c t = (((xM.slice (Rect.unit (s := S4096x1024) ![wlo (peer t c) t, 0] ![wsz t, 1024] inb) hr).view.loc (c : Thread nD τ))
      ↦[(xM.slice (Rect.unit (s := S4096x1024) ![wlo (peer t c) t, 0] ![wsz t, 1024] inb) hr).view.set]{share t} (xstg m ρ c) : sProp 𝕄) := by
    rw [hA]; unfold srcPts; rw [if_pos ht]; rfl
  have hdstE (fd : Arr F) : rPts (peer t c) (Src c t) fullShare fd
      = (((rM.slice (Rect.unit (s := S4096x1024) ![wlo (peer t c) t, 0] ![wsz t, 1024] inb) hr : Memref sig (Dev.tc (peer t c) : Thread nD τ).2.kind .vmem _ .f32).view.loc ((peer t c : Dev nD) : Thread nD τ))
          ↦[(rM.slice (Rect.unit (s := S4096x1024) ![wlo (peer t c) t, 0] ![wsz t, 1024] inb) hr : Memref sig (Dev.tc (peer t c) : Thread nD τ).2.kind .vmem _ .f32).view.set]{fullShare} fd : sProp 𝕄) := by
    unfold rPts; exact congrArg (fun X => (((peer t c : Dev nD) : Thread nD τ).loc cc0_scratch0 ↦[X]{fullShare} fd : sProp 𝕄)) hB.symm
  unfold Inv at hk ⊢
  rw [send_flying hi, bigSep_out (send_not_flying hi), send_undrained hi, send_drained hi, send_awaited hi, send_landed hi] at hk
  rw [owing_send c hi, send_toSend hi, bigSep_out (send_not_toSend hi), send_sources hi, bigSep_out (send_not_sources hi), hsrcE]
  iintro ⟨#Hrec, #Hlev, ⟨%Wt, HO⟩, ⟨Ht, Hts⟩, Hfl, Hud, Hdr, ⟨Hsrc, Hss⟩, Haw, Hla, Hrl, Hxl, Hxr, Hout⟩
  unfold toGo dstPts
  icases Ht with ⟨HtS, HtR, ⟨%fd, Hdst⟩⟩
  ihave Hdst := (Entails.of_eq (hdstE fd)) $$ Hdst
  ihave #HiS := (inv_send m ρ K c t) $$ Hrec
  ihave #HiR := (inv_recv m ρ K (peer t c) t) $$ Hrec
  ihave #HrS := (reached_send m ρ K c t) $$ Hrec
  ihave #HrR := (reached_recv m ρ K (peer t c) t) $$ Hrec
  iapply (Rounds.wp_send_pointsTo 𝒱₀ EM (meshRd m ρ) (c : Thread nD τ) none (κ₁ := K (c, some (false, t))) (κ₂ := K (peer t c, some (true, t)))
    (r₁ := 0) (r₂ := 0) (d₁ := 0) (d₂ := 0) (fd := fd)
    (by rw [duties_send]; exact Finset.mem_singleton_self _) (by rw [duties_recv]; exact Finset.mem_singleton_self _)
    () () (N t) rfl (amount_send m ρ c t 0) (amount_recv m ρ (peer t c) t 0) (owed c (toSend (i + 1))) rfl (W := Wt)
    (by rw [payload_send, hsrcE])
    (by
      rw [payload_recv]; unfold recvPay; rw [← hdstE]
      refine Entails.of_eq ?_
      unfold rPts
      exact pointsTo_congr fun y hy => (copied_x fd (xstg m ρ c) (hS ▸ hy)).trans (rem_own m ρ c ht hy))) $$ [Hsrc Hdst HO HtS HtR]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply hk
  isplitr; · iexact Hrec
  isplitr; · iexact Hlev
  isplitl [HO]; · unfold owing; iexists Wt; iexact HO
  isplitl [Hts]; · iexact Hts
  isplitl [Hc Hfl]; · isplitl [Hc]; · iexact Hc
                      iexact Hfl
  isplitl [Hud]; · iexact Hud
  isplitl [Hdr]; · iexact Hdr
  isplitl [Hss]; · iexact Hss
  isplitl [Haw]; · iexact Haw
  isplitl [Hla]; · iexact Hla
  isplitl [Hrl]; · iexact Hrl
  isplitl [Hxl]; · iexact Hxl
  isplitl [Hxr]; · iexact Hxr
  rw [outSoFar_congr m ρ c (send_added hi)]
  iexact Hout

/-- A transfer that passes landed rows on goes. -/
theorem step_send_pass {α : Type} {Q : α → sProp 𝕄} {t : Tr} (hi : sendAt t = i) (ht : 9 ≤ t.val) {n : Dev nD} (hn : n = peer t c)
    {off sz : Fin 2 → ℕ} (ho : off = ![wlo (peer t c) t, 0]) (hz : sz = ![wsz t, 1024]) {inb} {hr}
    {sA sB : SemLoc sig} (hA : sA = .dma (sS t)) (hB : sB = .dma (rS t))
    {hsc} {hsrc : (rM.slice (Rect.unit (s := S4096x1024) off sz inb) hr).view.WordExact}
    {hdst : (rM.slice (Rect.unit (s := S4096x1024) off sz inb) hr : Memref sig (Dev.tc n : Thread nD τ).2.kind .vmem _ .f32).view.WordExact}
    {hsem} {k : PUnit → Prog (TpuEff nD τ sig (Elt F) Λ₀ .tc) α}
    (hk : Inv m ρ K c (i + 1) ⊢ wp frame (wpE (defs₀ (F := F)) 𝒱₀ (c : Thread nD τ) none) Set.univ (k ⟨⟩) Q) :
    Inv m ρ K c i ⊢ wp frame (wpE (defs₀ (F := F)) 𝒱₀ (c : Thread nD τ) none) Set.univ
      (.op (.enqueueDma (p := .tc) (rM.slice (Rect.unit (s := S4096x1024) off sz inb) hr)
        (.remote (Dev.tc n) (rM.slice (Rect.unit (s := S4096x1024) off sz inb) hr) sA hsc) sB hsrc hdst hsem) k) Q := by
  subst hn hA hB ho hz
  have hS : (Rect.unit (s := S4096x1024) ![wlo (peer t c) t, 0] ![wsz t, 1024] inb).set = Src c t := rect_band rfl rfl inb
  have hA : (rM.slice (Rect.unit (s := S4096x1024) ![wlo (peer t c) t, 0] ![wsz t, 1024] inb) hr).view.set = Src c t := (View.set_slice_whole _ _).trans hS
  have hB : (rM.slice (Rect.unit (s := S4096x1024) ![wlo (peer t c) t, 0] ![wsz t, 1024] inb) hr : Memref sig .tc .vmem _ .f32).view.set = Src c t := (View.set_slice_whole _ _).trans hS
  have hsrcE : srcPts m ρ c t = (((rM.slice (Rect.unit (s := S4096x1024) ![wlo (peer t c) t, 0] ![wsz t, 1024] inb) hr).view.loc (c : Thread nD τ))
      ↦[(rM.slice (Rect.unit (s := S4096x1024) ![wlo (peer t c) t, 0] ![wsz t, 1024] inb) hr).view.set]{share t} (rem m ρ c) : sProp 𝕄) := by
    rw [hA]; unfold srcPts; rw [if_neg (by omega)]; rfl
  have hdstE (fd : Arr F) : rPts (peer t c) (Src c t) fullShare fd
      = (((rM.slice (Rect.unit (s := S4096x1024) ![wlo (peer t c) t, 0] ![wsz t, 1024] inb) hr : Memref sig (Dev.tc (peer t c) : Thread nD τ).2.kind .vmem _ .f32).view.loc ((peer t c : Dev nD) : Thread nD τ))
          ↦[(rM.slice (Rect.unit (s := S4096x1024) ![wlo (peer t c) t, 0] ![wsz t, 1024] inb) hr : Memref sig (Dev.tc (peer t c) : Thread nD τ).2.kind .vmem _ .f32).view.set]{fullShare} fd : sProp 𝕄) := by
    unfold rPts; exact congrArg (fun X => (((peer t c : Dev nD) : Thread nD τ).loc cc0_scratch0 ↦[X]{fullShare} fd : sProp 𝕄)) hB.symm
  unfold Inv at hk ⊢
  rw [send_flying hi, bigSep_out (send_not_flying hi), send_undrained hi, send_drained hi, send_awaited hi, send_landed hi] at hk
  rw [owing_send c hi, send_toSend hi, bigSep_out (send_not_toSend hi), send_sources hi, bigSep_out (send_not_sources hi), hsrcE]
  iintro ⟨#Hrec, #Hlev, ⟨%Wt, HO⟩, ⟨Ht, Hts⟩, Hfl, Hud, Hdr, ⟨Hsrc, Hss⟩, Haw, Hla, Hrl, Hxl, Hxr, Hout⟩
  unfold toGo dstPts
  icases Ht with ⟨HtS, HtR, ⟨%fd, Hdst⟩⟩
  ihave Hdst := (Entails.of_eq (hdstE fd)) $$ Hdst
  ihave #HiS := (inv_send m ρ K c t) $$ Hrec
  ihave #HiR := (inv_recv m ρ K (peer t c) t) $$ Hrec
  ihave #HrS := (reached_send m ρ K c t) $$ Hrec
  ihave #HrR := (reached_recv m ρ K (peer t c) t) $$ Hrec
  iapply (Rounds.wp_send_pointsTo 𝒱₀ EM (meshRd m ρ) (c : Thread nD τ) none (κ₁ := K (c, some (false, t))) (κ₂ := K (peer t c, some (true, t)))
    (r₁ := 0) (r₂ := 0) (d₁ := 0) (d₂ := 0) (fd := fd)
    (by rw [duties_send]; exact Finset.mem_singleton_self _) (by rw [duties_recv]; exact Finset.mem_singleton_self _)
    () () (N t) rfl (amount_send m ρ c t 0) (amount_recv m ρ (peer t c) t 0) (owed c (toSend (i + 1))) rfl (W := Wt)
    (by rw [payload_send, hsrcE])
    (by
      rw [payload_recv]; unfold recvPay; rw [← hdstE]
      refine Entails.of_eq ?_
      unfold rPts
      exact pointsTo_congr fun y hy => (copied_r fd (rem m ρ c) (hS ▸ hy)).trans (rem_pass m ρ c ht hy))) $$ [Hsrc Hdst HO HtS HtR]
  · isplitr; · iexact HiS
    isplitr; · iexact HiR
    isplitl [Hsrc]; · iexact Hsrc
    isplitl [Hdst]; · iexact Hdst
    isplitl [HO]; · iexact HO
    isplitl [HtS]; · iexact HtS
    isplitr; · iexact HrS
    isplitl [HtR]; · iexact HtR
    iexact HrR
  iintro ⟨Hc, HO⟩
  iapply hk
  isplitr; · iexact Hrec
  isplitr; · iexact Hlev
  isplitl [HO]; · unfold owing; iexists Wt; iexact HO
  isplitl [Hts]; · iexact Hts
  isplitl [Hc Hfl]; · isplitl [Hc]; · iexact Hc
                      iexact Hfl
  isplitl [Hud]; · iexact Hud
  isplitl [Hdr]; · iexact Hdr
  isplitl [Hss]; · iexact Hss
  isplitl [Haw]; · iexact Haw
  isplitl [Hla]; · iexact Hla
  isplitl [Hrl]; · iexact Hrl
  isplitl [Hxl]; · iexact Hxl
  isplitl [Hxr]; · iexact Hxr
  rw [outSoFar_congr m ρ c (send_added hi)]
  iexact Hout

omit [FloatOps F] in
/-- The parts of two sets of transfers. -/
theorem bigSep_two {S T : Finset Tr} (h : Disjoint S T) (f : Tr → sProp 𝕄) : bigSep (S ∪ T) f = iprop(bigSep S f ∗ bigSep T f) := bigSep_union h

omit [FloatOps F] in
/-- The left halves of the landed windows, one more. -/
theorem left_out {t : Tr} (hi : landAt t = i) : (rPts c ((landed (i + 1)).biUnion (W c)) fullShare.left (rem m ρ c) : sProp 𝕄)
    ⊣⊢ iprop(rPts c (W c t) fullShare.left (rem m ρ c) ∗ rPts c ((landed i).biUnion (W c)) fullShare.left (rem m ρ c)) := by
  have hd : Disjoint (W c t) ((landed i).biUnion (W c)) := by
    rw [Finset.disjoint_biUnion_right]
    exact fun p hp => W_disj c fun e => land_not_landed hi (e ▸ hp)
  rw [land_landed hi, Finset.biUnion_insert]
  unfold rPts; exact pointsTo_union hd

omit [FloatOps F] in
/-- A landing may be waited for: all that is still owed is above it. -/
theorem mayWait_land {t : Tr} (hi : landAt t = i) : (levAts L lv : sProp 𝕄) ⊢ MayWait (c : Thread nD τ) (.dma (rS t)) () (owed c (toSend i)) :=
  mayWait_owed c (.dma (rS t)) (toSend i) fun s hs => by
    rw [show lv ((c : Thread nD τ), .dma (rS t)) () = lev t from lv_recv c t]
    exact lev_lt t s (hi ▸ (Finset.mem_filter.mp hs).2)
omit [FloatOps F] in
/-- So may a departure. -/
theorem mayWait_drain (t : Tr) : (levAts L lv : sProp 𝕄) ⊢ MayWait (c : Thread nD τ) (.dma (sS t)) () (owed c (toSend i)) :=
  mayWait_owed c (.dma (sS t)) (toSend i) fun s hs => by
    rw [show lv ((c : Thread nD τ), .dma (sS t)) () = 0 from lv_send c t]
    have := lev_pos s; omega

/-- A transfer lands: its window is the device's, and dealt. -/
theorem step_land {α : Type} {Q : α → sProp 𝕄} {t : Tr} (hi : landAt t = i) {q : DmaSem sig} (hq : q = rS t)
    {s s' : Shape} {src : Memref sig .tc .vmem s' .f32} {dst : Memref sig .tc .vmem s .f32} (hN : dst.view.dmaCredit = N t)
    {hsrc : src.view.WordExact} {hdst : dst.view.WordExact} {k : PUnit → Prog (TpuEff nD τ sig (Elt F) Λ₀ .tc) α}
    (hk : Inv m ρ K c (i + 1) ⊢ wp frame (wpE (defs₀ (F := F)) 𝒱₀ (c : Thread nD τ) none) Set.univ (k ⟨⟩) Q) :
    Inv m ρ K c i ⊢ wp frame (wpE (defs₀ (F := F)) 𝒱₀ (c : Thread nD τ) none) Set.univ (.op (.waitDma2 (p := .tc) q src dst hsrc hdst) k) Q := by
  subst hq
  have hw (J : PUnit → sProp 𝕄) : wpE (defs₀ (F := F)) 𝒱₀ (c : Thread nD τ) none Set.univ (.waitDma2 (p := .tc) (rS t) src dst hsrc hdst) J
      = waitSpec (c : Thread nD τ) Set.univ (.dma (rS t)) (N t) J := by rw [← hN]; rfl
  unfold Inv at hk ⊢
  rw [owing_congr c (land_toSend hi), land_toSend hi, land_flying hi, land_undrained hi, land_drained hi, land_sources hi, bigSep_two (land_disj hi),
    land_landed hi, bigSep_out (land_not_landed hi), ← land_landed hi] at hk
  rw [land_awaited hi, bigSep_out (land_not_awaited hi)]
  iintro ⟨#Hrec, #Hlev, HO, Hts, Hfl, Hud, Hdr, Hss, ⟨Ht, Haw⟩, Hla, Hrl, Hxl, Hxr, Hout⟩
  unfold owing toCome
  icases HO with ⟨%Wt, HO⟩
  icases Ht with ⟨Hc, Hat⟩
  ihave #HiR := (inv_recv m ρ K c t) $$ Hrec
  iapply (Rounds.wp_wait_rest_token 𝒱₀ EM (meshRd m ρ) (c : Thread nD τ) none (κ := K (c, some (true, t)))
      hw (Set.mem_univ _) () (O := owed c (toSend i)) (W := Wt) (R := 0) (m := 0) (T := ∅)
      (by rw [Nat.zero_add, expect_recv])) $$ [Hc HO Hat]
  · isplitr; · iexact HiR
    isplitl [Hc]; · iexact Hc
    isplitl [HO]; · iexact HO
    isplitr; · iapply (mayWait_land c hi); iexact Hlev
    iexact Hat
  iintro ⟨HO, Hat, -, Hpay⟩
  ihave Hw := (Entails.of_eq (rest_recv m ρ c t)) $$ Hpay
  unfold recvPay
  ihave Hw := (land_split m ρ c t).1 $$ Hw
  icases Hw with ⟨Hwl, Hfed, Hrest⟩
  imod (Rounds.cell_close EM (meshRd m ρ) (Set.mem_univ (K (c, some (true, t)))) (fun h => h) (R := 0 + 1) (duties_later m ρ (rCell c t))) $$ [Hat] with Hz
  · isplitr; · iexact HiR
    iexact Hat
  iapply hk
  isplitr; · iexact Hrec
  isplitr; · iexact Hlev
  isplitl [HO]; · unfold owing; iexists _; iexact HO
  isplitl [Hts]; · iexact Hts
  isplitl [Hfl]; · iexact Hfl
  isplitl [Hud]; · iexact Hud
  isplitl [Hdr]; · iexact Hdr
  isplitl [Hfed Hss]
  · isplitl [Hfed]; · iexact Hfed
    iexact Hss
  isplitl [Haw]; · unfold toCome; iexact Haw
  isplitl [Hz Hrest Hla]
  · isplitl [Hz Hrest]
    · unfold come
      isplitl [Hz]; · iexact Hz
      iexact Hrest
    iexact Hla
  isplitl [Hwl Hrl]
  · iapply (left_out m ρ c hi).2
    isplitl [Hwl]; · iexact Hwl
    iexact Hrl
  isplitl [Hxl]; · iexact Hxl
  isplitl [Hxr]; · iexact Hxr
  rw [outSoFar_congr m ρ c (land_added hi)]
  iexact Hout

/-- A transfer's rows are back. -/
theorem step_drain {α : Type} {Q : α → sProp 𝕄} {t : Tr} (hi : drainAt t = i) {q : DmaSem sig} (hq : q = sS t)
    {s s' : Shape} {src : Memref sig .tc .vmem s' .f32} {dst : Memref sig .tc .vmem s .f32} (hN : dst.view.dmaCredit = N t)
    {hsrc : src.view.WordExact} {hdst : dst.view.WordExact} {k : PUnit → Prog (TpuEff nD τ sig (Elt F) Λ₀ .tc) α}
    (hk : Inv m ρ K c (i + 1) ⊢ wp frame (wpE (defs₀ (F := F)) 𝒱₀ (c : Thread nD τ) none) Set.univ (k ⟨⟩) Q) :
    Inv m ρ K c i ⊢ wp frame (wpE (defs₀ (F := F)) 𝒱₀ (c : Thread nD τ) none) Set.univ (.op (.waitDma2 (p := .tc) q src dst hsrc hdst) k) Q := by
  subst hq
  have hw (J : PUnit → sProp 𝕄) : wpE (defs₀ (F := F)) 𝒱₀ (c : Thread nD τ) none Set.univ (.waitDma2 (p := .tc) (sS t) src dst hsrc hdst) J
      = waitSpec (c : Thread nD τ) Set.univ (.dma (sS t)) (N t) J := by rw [← hN]; rfl
  unfold Inv at hk ⊢
  rw [owing_congr c (drain_toSend hi), drain_toSend hi, drain_drained hi, bigSep_out (drain_not_drained hi), drain_sources hi, bigSep_out (drain_not_sources hi),
    drain_awaited hi, drain_landed hi] at hk
  rw [drain_flying hi, bigSep_out (drain_not_flying hi), drain_undrained hi, bigSep_out (drain_not_undrained hi)]
  iintro ⟨#Hrec, #Hlev, HO, Hts, ⟨Hc, Hfl⟩, ⟨Hat, Hud⟩, Hdr, Hss, Haw, Hla, Hrl, Hxl, Hxr, Hout⟩
  unfold owing
  icases HO with ⟨%Wt, HO⟩
  ihave #HiS := (inv_send m ρ K c t) $$ Hrec
  iapply (Rounds.wp_wait_rest_token 𝒱₀ EM (meshRd m ρ) (c : Thread nD τ) none (κ := K (c, some (false, t)))
      hw (Set.mem_univ _) () (O := owed c (toSend i)) (W := Wt) (R := 0) (m := 0) (T := ∅)
      (by rw [Nat.zero_add, expect_send])) $$ [Hc HO Hat]
  · isplitr; · iexact HiS
    isplitl [Hc]; · iexact Hc
    isplitl [HO]; · iexact HO
    isplitr; · iapply (mayWait_drain c t); iexact Hlev
    iexact Hat
  iintro ⟨HO, Hat, -, Hpay⟩
  ihave Hw := (Entails.of_eq (rest_send m ρ c t)) $$ Hpay
  imod (Rounds.cell_close EM (meshRd m ρ) (Set.mem_univ (K (c, some (false, t)))) (fun h => h) (R := 0 + 1) (duties_later m ρ (sCell c t))) $$ [Hat] with Hz
  · isplitr; · iexact HiS
    iexact Hat
  iapply hk
  isplitr; · iexact Hrec
  isplitr; · iexact Hlev
  isplitl [HO]; · unfold owing; iexists _; iexact HO
  isplitl [Hts]; · iexact Hts
  isplitl [Hfl]; · iexact Hfl
  isplitl [Hud]; · iexact Hud
  isplitl [Hz Hdr]
  · isplitl [Hz]; · iexact Hz
    iexact Hdr
  isplitl [Hw Hss]
  · isplitl [Hw]; · iexact Hw
    iexact Hss
  isplitl [Haw]; · iexact Haw
  isplitl [Hla]; · iexact Hla
  isplitl [Hrl]; · iexact Hrl
  isplitl [Hxl]; · iexact Hxl
  isplitl [Hxr]; · iexact Hxr
  rw [outSoFar_congr m ρ c (drain_added hi)]
  iexact Hout

section Access
variable {off sz : Fin 2 → ℕ} {inb : ∀ a, off a + sz a ≤ S4096x1024.size a}

/-- Rows of the device's block are loaded. -/
theorem step_load_x {α : Type} {Q : α → sProp 𝕄} {hl} {k : ((Rect.unit (s := S4096x1024) off sz inb).shape.Idx → Elt F .f32) → Prog (TpuEff nD τ sig (Elt F) Λ₀ .tc) α}
    (hk : Inv m ρ K c i ⊢ wp frame (wpE (defs₀ (F := F)) 𝒱₀ (c : Thread nD τ) none) Set.univ (k (rows (xstg m ρ c) off sz inb)) Q) :
    Inv m ρ K c i ⊢ wp frame (wpE (defs₀ (F := F)) 𝒱₀ (c : Thread nD τ) none) Set.univ
      (.op (.load (p := .tc) xM (Rect.unit (s := S4096x1024) off sz inb).toLoadRect hl) k) Q := by
  unfold Inv at hk ⊢
  iintro ⟨#Hrec, #Hlev, HO, Hts, Hfl, Hud, Hdr, Hss, Haw, Hla, Hrl, Hxl, Hxr, Hout⟩
  unfold xPts at hk ⊢
  iapply (wp_load_rect 𝒱₀ (c : Thread nD τ) none Set.univ (m := xM) (r := Rect.unit (s := S4096x1024) off sz inb) (Finset.subset_univ _)) $$ Hxl; iintro Hxl
  iapply hk
  isplitr; · iexact Hrec
  isplitr; · iexact Hlev
  isplitl [HO]; · iexact HO
  isplitl [Hts]; · iexact Hts
  isplitl [Hfl]; · iexact Hfl
  isplitl [Hud]; · iexact Hud
  isplitl [Hdr]; · iexact Hdr
  isplitl [Hss]; · iexact Hss
  isplitl [Haw]; · iexact Haw
  isplitl [Hla]; · iexact Hla
  isplitl [Hrl]; · iexact Hrl
  isplitl [Hxl]; · iexact Hxl
  isplitl [Hxr]; · iexact Hxr
  iexact Hout

/-- Landed rows are loaded. -/
theorem step_load_r {α : Type} {Q : α → sProp 𝕄} {lo n : ℕ} (ho : off = ![lo, 0]) (hz : sz = ![n, 1024]) (hS : band lo n ⊆ (landed i).biUnion (W c))
    {hl} {k : ((Rect.unit (s := S4096x1024) off sz inb).shape.Idx → Elt F .f32) → Prog (TpuEff nD τ sig (Elt F) Λ₀ .tc) α}
    (hk : Inv m ρ K c i ⊢ wp frame (wpE (defs₀ (F := F)) 𝒱₀ (c : Thread nD τ) none) Set.univ (k (rows (rem m ρ c) off sz inb)) Q) :
    Inv m ρ K c i ⊢ wp frame (wpE (defs₀ (F := F)) 𝒱₀ (c : Thread nD τ) none) Set.univ
      (.op (.load (p := .tc) rM (Rect.unit (s := S4096x1024) off sz inb).toLoadRect hl) k) Q := by
  have hset : (rM.access (Rect.unit (s := S4096x1024) off sz inb)).set ⊆ (landed i).biUnion (W c) := by
    rw [View.set_slice_whole, rect_band ho hz]; exact hS
  unfold Inv at hk ⊢
  iintro ⟨#Hrec, #Hlev, HO, Hts, Hfl, Hud, Hdr, Hss, Haw, Hla, Hrl, Hxl, Hxr, Hout⟩
  unfold rPts at hk ⊢
  iapply (wp_load_rect 𝒱₀ (c : Thread nD τ) none Set.univ (m := rM) (r := Rect.unit (s := S4096x1024) off sz inb) hset) $$ Hrl; iintro Hrl
  iapply hk
  isplitr; · iexact Hrec
  isplitr; · iexact Hlev
  isplitl [HO]; · iexact HO
  isplitl [Hts]; · iexact Hts
  isplitl [Hfl]; · iexact Hfl
  isplitl [Hud]; · iexact Hud
  isplitl [Hdr]; · iexact Hdr
  isplitl [Hss]; · iexact Hss
  isplitl [Haw]; · iexact Haw
  isplitl [Hla]; · iexact Hla
  isplitl [Hrl]; · iexact Hrl
  isplitl [Hxl]; · iexact Hxl
  isplitl [Hxr]; · iexact Hxr
  iexact Hout

/-- Rows of the result are loaded: whatever they hold. -/
theorem step_load_o {α : Type} {Q : α → sProp 𝕄} {hl} {k : ((Rect.unit (s := S4096x1024) off sz inb).shape.Idx → Elt F .f32) → Prog (TpuEff nD τ sig (Elt F) Λ₀ .tc) α}
    (hk : ∀ v, Inv m ρ K c i ⊢ wp frame (wpE (defs₀ (F := F)) 𝒱₀ (c : Thread nD τ) none) Set.univ (k v) Q) :
    Inv m ρ K c i ⊢ wp frame (wpE (defs₀ (F := F)) 𝒱₀ (c : Thread nD τ) none) Set.univ
      (.op (.load (p := .tc) oM (Rect.unit (s := S4096x1024) off sz inb).toLoadRect hl) k) Q := by
  unfold Inv outSoFar at hk ⊢
  iintro ⟨#Hrec, #Hlev, HO, Hts, Hfl, Hud, Hdr, Hss, Haw, Hla, Hrl, Hxl, Hxr, ⟨%g, %hg, Hout⟩⟩
  unfold oPts at hk ⊢
  iapply (wp_load_rect 𝒱₀ (c : Thread nD τ) none Set.univ (m := oM) (r := Rect.unit (s := S4096x1024) off sz inb) (Finset.subset_univ _)) $$ Hout; iintro Hout
  iapply (hk _)
  isplitr; · iexact Hrec
  isplitr; · iexact Hlev
  isplitl [HO]; · iexact HO
  isplitl [Hts]; · iexact Hts
  isplitl [Hfl]; · iexact Hfl
  isplitl [Hud]; · iexact Hud
  isplitl [Hdr]; · iexact Hdr
  isplitl [Hss]; · iexact Hss
  isplitl [Haw]; · iexact Haw
  isplitl [Hla]; · iexact Hla
  isplitl [Hrl]; · iexact Hrl
  isplitl [Hxl]; · iexact Hxl
  isplitl [Hxr]; · iexact Hxr
  iexists g
  isplitr; · ipureintro; exact hg
  iexact Hout

/-- Rows of the result are stored: the two blocks' sum there. -/
theorem step_store {α : Type} {Q : α → sProp 𝕄} {t : Tr} (hi : addAt t = i) {lo n : ℕ} (ho : off = ![lo, 0]) (hz : sz = ![n, 1024])
    (hS : addBand c t ⊆ band lo n) {w : (Rect.unit (s := S4096x1024) off sz inb).shape.Idx → Elt F .f32} (hw : w = rows (outAt m ρ c) off sz inb)
    {hx hm} {k : PUnit → Prog (TpuEff nD τ sig (Elt F) Λ₀ .tc) α}
    (hk : Inv m ρ K c (i + 1) ⊢ wp frame (wpE (defs₀ (F := F)) 𝒱₀ (c : Thread nD τ) none) Set.univ (k ⟨⟩) Q) :
    Inv m ρ K c i ⊢ wp frame (wpE (defs₀ (F := F)) 𝒱₀ (c : Thread nD τ) none) Set.univ
      (.op (.store (p := .tc) oM (Rect.unit (s := S4096x1024) off sz inb) w Finset.univ hx hm) k) Q := by
  have hin (g : Arr F) (y : S4096x1024.Idx) (hy : y ∈ (Rect.unit (s := S4096x1024) off sz inb).set) :
      (oM.access (Rect.unit (s := S4096x1024) off sz inb)).write (Elt F) g w Finset.univ y = outAt m ρ c y := by
    rw [← View.set_slice_whole cc0_stg1_0] at hy
    obtain ⟨j, -, rfl⟩ := Finset.mem_map.mp hy
    exact (stored_in g w j).trans (congrFun hw j)
  have hnew (g : Arr F) (hg : ∀ t ∈ added i, ∀ y ∈ addBand c t, g y = outAt m ρ c y) : ∀ p ∈ added (i + 1), ∀ y ∈ addBand c p,
      (oM.access (Rect.unit (s := S4096x1024) off sz inb)).write (Elt F) g w Finset.univ y = outAt m ρ c y := fun p hp y hy => by
    by_cases hr : y ∈ (Rect.unit (s := S4096x1024) off sz inb).set
    · exact hin g y hr
    · rw [add_added hi, Finset.mem_insert] at hp
      rcases hp with rfl | hp
      · exact absurd ((rect_band ho hz inb).symm ▸ hS hy) hr
      · rw [stored_off g w hr]; exact hg p hp y hy
  unfold Inv at hk ⊢
  rw [owing_congr c (add_toSend hi), add_toSend hi, add_flying hi, add_undrained hi, add_drained hi, add_sources hi, add_awaited hi, add_landed hi] at hk
  unfold outSoFar oPts at hk ⊢
  iintro ⟨#Hrec, #Hlev, HO, Hts, Hfl, Hud, Hdr, Hss, Haw, Hla, Hrl, Hxl, Hxr, ⟨%g, %hg, Hout⟩⟩
  iapply (wp_store 𝒱₀ (c : Thread nD τ) none Set.univ (m := oM) (r := Rect.unit (s := S4096x1024) off sz inb) (Mk := Finset.univ) (Finset.subset_univ _)) $$ Hout; iintro Hout
  iapply hk
  isplitr; · iexact Hrec
  isplitr; · iexact Hlev
  isplitl [HO]; · iexact HO
  isplitl [Hts]; · iexact Hts
  isplitl [Hfl]; · iexact Hfl
  isplitl [Hud]; · iexact Hud
  isplitl [Hdr]; · iexact Hdr
  isplitl [Hss]; · iexact Hss
  isplitl [Haw]; · iexact Haw
  isplitl [Hla]; · iexact Hla
  isplitl [Hrl]; · iexact Hrl
  isplitl [Hxl]; · iexact Hxl
  isplitl [Hxr]; · iexact Hxr
  iexists _
  isplitr
  · ipureintro; exact hnew g hg
  iexact Hout

end Access

/-- A part's end. -/
theorem part_end {α : Type} {A : sProp 𝕄} {φ : α → Prop} {a : α} (h : φ a) :
    A ⊢ wp frame (wpE (defs₀ (F := F)) 𝒱₀ (c : Thread nD τ) none) Set.univ (.ret a) (fun r => iprop(⌜φ r⌝ ∗ A)) := by
  rw [wp_ret]
  iintro HA; imodintro
  isplitr; · ipureintro; exact h
  iexact HA

end Steps

end Cert.MeshSum

end
-- ==== Proof.Places.lean ====
/-
# The places the kernel names

The program computes its rows and neighbours from the device's number; here they are the windows and neighbours of the plan. And what
it adds: rows of the two blocks, to rows of the result.
-/
module

public import Idealize.ShloMosaic.Lib.Pipeline.Value
public import proofs.«01_k».proof.Proof.Steps

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## Neighbours -/

/-- Device computation 1 gives the neighbour along axis 0. -/
theorem dev1_eq : ∀ c : Dev nD, (⟨k0_dev1 c, k0_dev1_lt c⟩ : Dev nD) = flip 0 c := by decide +kernel
/-- Device computation 2 gives the neighbour along axis 1. -/
theorem dev2_eq : ∀ c : Dev nD, (⟨k0_dev2 c, k0_dev2_lt c⟩ : Dev nD) = flip 1 c := by decide +kernel
/-- Device computation 3 gives the neighbour along axis 2. -/
theorem dev3_eq : ∀ c : Dev nD, (⟨k0_dev3 c, k0_dev3_lt c⟩ : Dev nD) = flip 2 c := by decide +kernel
/-- Device computation 4 gives the device at the other end of transfer 5. -/
theorem dev4_eq : ∀ c : Dev nD, (⟨k0_dev4 c, k0_dev4_lt c⟩ : Dev nD) = peer 5 c := by decide +kernel
/-- Device computation 5 gives the device at the other end of transfer 3. -/
theorem dev5_eq : ∀ c : Dev nD, (⟨k0_dev5 c, k0_dev5_lt c⟩ : Dev nD) = peer 3 c := by decide +kernel
/-- Device computation 6 gives the device at the other end of transfer 4. -/
theorem dev6_eq : ∀ c : Dev nD, (⟨k0_dev6 c, k0_dev6_lt c⟩ : Dev nD) = peer 4 c := by decide +kernel
/-- Device computation 7 gives the device at the other end of transfer 6. -/
theorem dev7_eq : ∀ c : Dev nD, (⟨k0_dev7 c, k0_dev7_lt c⟩ : Dev nD) = peer 6 c := by decide +kernel
/-- Device computation 8 gives the device at the other end of transfer 7. -/
theorem dev8_eq : ∀ c : Dev nD, (⟨k0_dev8 c, k0_dev8_lt c⟩ : Dev nD) = peer 7 c := by decide +kernel
/-- Device computation 9 gives the device at the other end of transfer 2. -/
theorem dev9_eq : ∀ c : Dev nD, (⟨k0_dev9 c, k0_dev9_lt c⟩ : Dev nD) = peer 2 c := by decide +kernel
/-- Device computation 10 gives the device at the other end of transfer 0. -/
theorem dev10_eq : ∀ c : Dev nD, (⟨k0_dev10 c, k0_dev10_lt c⟩ : Dev nD) = peer 0 c := by decide +kernel
/-- Device computation 11 gives the device at the other end of transfer 1. -/
theorem dev11_eq : ∀ c : Dev nD, (⟨k0_dev11 c, k0_dev11_lt c⟩ : Dev nD) = peer 1 c := by decide +kernel
/-- Device computation 12 gives the device at the other end of transfer 8. -/
theorem dev12_eq : ∀ c : Dev nD, (⟨k0_dev12 c, k0_dev12_lt c⟩ : Dev nD) = peer 8 c := by decide +kernel
/-- Device computation 13 gives the device at the other end of transfer 14. -/
theorem dev13_eq : ∀ c : Dev nD, (⟨k0_dev13 c, k0_dev13_lt c⟩ : Dev nD) = peer 14 c := by decide +kernel
/-- Device computation 14 gives the device at the other end of transfer 22. -/
theorem dev14_eq : ∀ c : Dev nD, (⟨k0_dev14 c, k0_dev14_lt c⟩ : Dev nD) = peer 22 c := by decide +kernel
/-- Device computation 15 gives the device at the other end of transfer 12. -/
theorem dev15_eq : ∀ c : Dev nD, (⟨k0_dev15 c, k0_dev15_lt c⟩ : Dev nD) = peer 12 c := by decide +kernel
/-- Device computation 16 gives the device at the other end of transfer 20. -/
theorem dev16_eq : ∀ c : Dev nD, (⟨k0_dev16 c, k0_dev16_lt c⟩ : Dev nD) = peer 20 c := by decide +kernel
/-- Device computation 17 gives the device at the other end of transfer 13. -/
theorem dev17_eq : ∀ c : Dev nD, (⟨k0_dev17 c, k0_dev17_lt c⟩ : Dev nD) = peer 13 c := by decide +kernel
/-- Device computation 18 gives the device at the other end of transfer 21. -/
theorem dev18_eq : ∀ c : Dev nD, (⟨k0_dev18 c, k0_dev18_lt c⟩ : Dev nD) = peer 21 c := by decide +kernel
/-- Device computation 19 gives the device at the other end of transfer 25. -/
theorem dev19_eq : ∀ c : Dev nD, (⟨k0_dev19 c, k0_dev19_lt c⟩ : Dev nD) = peer 25 c := by decide +kernel
/-- Device computation 20 gives the device at the other end of transfer 28. -/
theorem dev20_eq : ∀ c : Dev nD, (⟨k0_dev20 c, k0_dev20_lt c⟩ : Dev nD) = peer 28 c := by decide +kernel
/-- Device computation 21 gives the device at the other end of transfer 15. -/
theorem dev21_eq : ∀ c : Dev nD, (⟨k0_dev21 c, k0_dev21_lt c⟩ : Dev nD) = peer 15 c := by decide +kernel
/-- Device computation 22 gives the device at the other end of transfer 23. -/
theorem dev22_eq : ∀ c : Dev nD, (⟨k0_dev22 c, k0_dev22_lt c⟩ : Dev nD) = peer 23 c := by decide +kernel
/-- Device computation 23 gives the device at the other end of transfer 26. -/
theorem dev23_eq : ∀ c : Dev nD, (⟨k0_dev23 c, k0_dev23_lt c⟩ : Dev nD) = peer 26 c := by decide +kernel
/-- Device computation 24 gives the device at the other end of transfer 16. -/
theorem dev24_eq : ∀ c : Dev nD, (⟨k0_dev24 c, k0_dev24_lt c⟩ : Dev nD) = peer 16 c := by decide +kernel
/-- Device computation 25 gives the device at the other end of transfer 24. -/
theorem dev25_eq : ∀ c : Dev nD, (⟨k0_dev25 c, k0_dev25_lt c⟩ : Dev nD) = peer 24 c := by decide +kernel
/-- Device computation 26 gives the device at the other end of transfer 27. -/
theorem dev26_eq : ∀ c : Dev nD, (⟨k0_dev26 c, k0_dev26_lt c⟩ : Dev nD) = peer 27 c := by decide +kernel
/-- Device computation 27 gives the device at the other end of transfer 11. -/
theorem dev27_eq : ∀ c : Dev nD, (⟨k0_dev27 c, k0_dev27_lt c⟩ : Dev nD) = peer 11 c := by decide +kernel
/-- Device computation 28 gives the device at the other end of transfer 19. -/
theorem dev28_eq : ∀ c : Dev nD, (⟨k0_dev28 c, k0_dev28_lt c⟩ : Dev nD) = peer 19 c := by decide +kernel
/-- Device computation 29 gives the device at the other end of transfer 29. -/
theorem dev29_eq : ∀ c : Dev nD, (⟨k0_dev29 c, k0_dev29_lt c⟩ : Dev nD) = peer 29 c := by decide +kernel
/-- Device computation 30 gives the device at the other end of transfer 9. -/
theorem dev30_eq : ∀ c : Dev nD, (⟨k0_dev30 c, k0_dev30_lt c⟩ : Dev nD) = peer 9 c := by decide +kernel
/-- Device computation 31 gives the device at the other end of transfer 17. -/
theorem dev31_eq : ∀ c : Dev nD, (⟨k0_dev31 c, k0_dev31_lt c⟩ : Dev nD) = peer 17 c := by decide +kernel
/-- Device computation 32 gives the device at the other end of transfer 30. -/
theorem dev32_eq : ∀ c : Dev nD, (⟨k0_dev32 c, k0_dev32_lt c⟩ : Dev nD) = peer 30 c := by decide +kernel
/-- Device computation 33 gives the device at the other end of transfer 10. -/
theorem dev33_eq : ∀ c : Dev nD, (⟨k0_dev33 c, k0_dev33_lt c⟩ : Dev nD) = peer 10 c := by decide +kernel
/-- Device computation 34 gives the device at the other end of transfer 18. -/
theorem dev34_eq : ∀ c : Dev nD, (⟨k0_dev34 c, k0_dev34_lt c⟩ : Dev nD) = peer 18 c := by decide +kernel

/-! ## Rows -/

/-- Offset 1 is where a transfer's source rows begin. -/
theorem src_off1 : ∀ (c : Dev nD) (t : Tr), t.val < 8 ∨ (9 ≤ t.val ∧ t.val < 25) → k0_off1 c (BitVec.ofNat 32 (wofs t)) = ![wlo (peer t c) t, 0] := by decide +kernel
/-- Offset 2 is where a transfer's source rows begin. -/
theorem src_off2 : ∀ c : Dev nD, k0_off2 c = ![wlo (peer 8 c) 8, 0] := by decide +kernel
/-- Offset 6 is where a transfer's source rows begin. -/
theorem src_off6 : ∀ c : Dev nD, k0_off6 c = ![wlo (peer 25 c) 25, 0] := by decide +kernel
/-- Offset 7 is where a transfer's source rows begin. -/
theorem src_off7 : ∀ c : Dev nD, k0_off7 c = ![wlo (peer 28 c) 28, 0] := by decide +kernel
/-- Offset 10 is where a transfer's source rows begin. -/
theorem src_off10 : ∀ c : Dev nD, k0_off10 c = ![wlo (peer 26 c) 26, 0] := by decide +kernel
/-- Offset 4 is where a transfer's source rows begin. -/
theorem src_off4 : ∀ c : Dev nD, k0_off4 c 512#32 = ![wlo (peer 27 c) 27, 0] := by decide +kernel
/-- Offset 5 is where a transfer's source rows begin. -/
theorem src_off5 : ∀ (c : Dev nD) (t : Tr), 29 ≤ t.val → k0_off5 c (BitVec.ofNat 32 (wofs t)) = ![wlo (peer t c) t, 0] := by decide +kernel
/-- Offset 3 is where a landed window begins. -/
theorem add_off3 : ∀ (c : Dev nD) (t : Tr), t.val < 8 → k0_off3 c (BitVec.ofNat 32 (wofs t)) = ![wlo c t, 0] := by decide +kernel
/-- Offset 8 is where a landed window begins. -/
theorem add_off8 : ∀ (c : Dev nD) (t : Tr), 9 ≤ t.val ∧ t.val < 17 → k0_off8 c (BitVec.ofNat 32 (wofs t)) = ![wlo c t, 0] := by decide +kernel
/-- Offset 9 is where a landed window begins. -/
theorem add_off9 : ∀ (c : Dev nD) (t : Tr), 17 ≤ t.val ∧ t.val < 25 → k0_off9 c (BitVec.ofNat 32 (wofs t)) = ![wlo c t, 0] := by decide +kernel
/-- Offset 11 is where a landed window begins. -/
theorem add_off11 : ∀ c : Dev nD, k0_off11 c = ![wlo c 8, 0] := by decide +kernel
/-- Offset 16 is where a landed window begins. -/
theorem add_off16 : ∀ c : Dev nD, k0_off16 c = ![wlo c 26, 0] := by decide +kernel

/-- A landed window may be read. -/
theorem sub_landed (c : Dev nD) {i : ℕ} (t : Tr) (h : landAt t < i) : band (wlo c t) (wsz t) ⊆ (landed i).biUnion (W c) :=
  Finset.subset_biUnion_of_mem (W c) (Finset.mem_filter.mpr ⟨Finset.mem_univ _, h⟩)
/-- Every run of eight of the last 560 rows lies in the window of one of the transfers passed on twice. -/
theorem last_windows : ∀ (c : Dev nD) (b : Fin 512), wlo c 26 ≤ 8 * b.val ∧ 8 * b.val < wlo c 26 + 560 →
    ∃ t : Tr, 25 ≤ t.val ∧ wlo c t ≤ 8 * b.val ∧ 8 * b.val + 8 ≤ wlo c t + wsz t := by decide +kernel
/-- Those transfers have all landed when the last sum is stored. -/
theorem last_landed : ∀ t : Tr, 25 ≤ t.val → landAt t < 87 := by decide +kernel
/-- The last 560 rows begin at a multiple of eight. -/
theorem wlo_eight : ∀ c : Dev nD, wlo c 26 % 8 = 0 := by decide +kernel
/-- So may the last six together. -/
theorem sub_last (c : Dev nD) : band (wlo c 26) 560 ⊆ (landed 87).biUnion (W c) := fun y hy => by
  rw [mem_band] at hy
  have h0 : (y 0).val < 4096 := (y 0).isLt
  have h8 := wlo_eight c
  obtain ⟨t, ht, h1, h2⟩ := last_windows c ⟨(y 0).val / 8, by omega⟩ (by dsimp only; omega)
  refine Finset.mem_biUnion.mpr ⟨t, Finset.mem_filter.mpr ⟨Finset.mem_univ _, last_landed t ht⟩, ?_⟩
  unfold W; rw [mem_band]; dsimp only at h1 h2; omega

/-- An addition writes its window. -/
theorem addBand_sub (c : Dev nD) (t : Tr) (h : t.val ≠ 25) : addBand c t ⊆ band (wlo c t) (wsz t) := by unfold addBand; rw [if_neg h]; exact Finset.Subset.refl _
/-- The last sum is stored over the last 560 rows. -/
theorem addBand_last (c : Dev nD) : addBand c 25 ⊆ band (wlo c 26) 560 := by unfold addBand; rw [if_pos (by rfl)]

/-! ## Sums -/

/-- What a part hands the next unchanged. -/
theorem pay1_id (v : Vec F S128x1024 .f32) : k0_pay1 v = v := shapeCast_self v _
/-- The same at another such place, -/
theorem pay8_id (v : Vec F S128x1024 .f32) : k0_pay8 v = v := shapeCast_self v _
/-- and at a third. -/
theorem pay20_id (v : Vec F S128x1024 .f32) : k0_pay20 v = v := shapeCast_self v _

/-- Rows of the two blocks, added, are rows of the result. -/
theorem rows_sum (c : Dev nD) {off sz : Fin 2 → ℕ} {inb : ∀ a, off a + sz a ≤ S4096x1024.size a}
    (h : (Rect.unit (s := S4096x1024) off sz inb).shape.ShapeCasts (Rect.unit (s := S4096x1024) off sz inb).shape) :
    addf (F := F) (φ := .f32) (shapeCast (Rect.unit (s := S4096x1024) off sz inb).shape (rows (xstg m ρ c) off sz inb) h) (rows (rem m ρ c) off sz inb) = rows (outAt m ρ c) off sz inb := by
  rw [shapeCast_self]; rfl

end Cert.MeshSum

end
-- ==== Proof.BodyA.lean ====
/-
# The run of a device: steps 0 to 25

The kernel's parts 3 to 14, step by step.
-/
module

public import proofs.«01_k».proof.Proof.Places

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Own → ℕ) (c : Dev nD)

/-- The kernel's part 3: step 0. -/
theorem part3 (v5 : BitVec 32) (v8 : BitVec 32) (v9 : BitVec 32) (v13 : BitVec 32) (v23 : BitVec 32) (v61 : BitVec 32) :
    Inv m ρ K c 0 ⊢ wp frame (wpE (defs₀ (F := F)) 𝒱₀ (c : Thread nD τ) none) Set.univ (k0_part3 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v5 v8 v9 v13 v23 v61)
      (fun r => iprop(⌜True⌝ ∗ Inv m ρ K c 1)) := by
  rw [k0_part3_eq_skeleton]; unfold k0_part3_skel
  simp only [Prog.lift, Prog.bind_op, Prog.bind_ret, Prog.pure_eq_ret]
  refine step_send_own m ρ K c (t := 5) rfl (by decide) (dev4_eq c) (src_off1 c 5 (by decide)) rfl rfl rfl ?_
  exact part_end c trivial

/-- The kernel's part 4: steps 1 to 3. -/
theorem part4 (v5 : BitVec 32) (v8 : BitVec 32) (v9 : BitVec 32) (v92 : BitVec 32) :
    Inv m ρ K c 1 ⊢ wp frame (wpE (defs₀ (F := F)) 𝒱₀ (c : Thread nD τ) none) Set.univ (k0_part4 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v5 v8 v9 v92)
      (fun r => iprop(⌜True⌝ ∗ Inv m ρ K c 4)) := by
  rw [k0_part4_eq_skeleton]; unfold k0_part4_skel
  simp only [Prog.lift, Prog.bind_op, Prog.bind_ret, Prog.pure_eq_ret]
  refine step_send_own m ρ K c (t := 3) rfl (by decide) (dev5_eq c) (src_off1 c 3 (by decide)) rfl rfl rfl ?_
  refine step_send_own m ρ K c (t := 4) rfl (by decide) (dev6_eq c) (src_off1 c 4 (by decide)) rfl rfl rfl ?_
  refine step_send_own m ρ K c (t := 6) rfl (by decide) (dev7_eq c) (src_off1 c 6 (by decide)) rfl rfl rfl ?_
  exact part_end c trivial

/-- The kernel's part 5: steps 4 to 6. -/
theorem part5 (v5 : BitVec 32) (v8 : BitVec 32) (v9 : BitVec 32) (v126 : BitVec 32) :
    Inv m ρ K c 4 ⊢ wp frame (wpE (defs₀ (F := F)) 𝒱₀ (c : Thread nD τ) none) Set.univ (k0_part5 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v5 v8 v9 v126)
      (fun r => iprop(⌜True⌝ ∗ Inv m ρ K c 7)) := by
  rw [k0_part5_eq_skeleton]; unfold k0_part5_skel
  simp only [Prog.lift, Prog.bind_op, Prog.bind_ret, Prog.pure_eq_ret]
  refine step_send_own m ρ K c (t := 7) rfl (by decide) (dev8_eq c) (src_off1 c 7 (by decide)) rfl rfl rfl ?_
  refine step_send_own m ρ K c (t := 2) rfl (by decide) (dev9_eq c) (src_off1 c 2 (by decide)) rfl rfl rfl ?_
  refine step_send_own m ρ K c (t := 0) rfl (by decide) (dev10_eq c) (src_off1 c 0 (by decide)) rfl rfl rfl ?_
  exact part_end c trivial

/-- The kernel's part 6: steps 7 to 8. -/
theorem part6 (v5 : BitVec 32) (v8 : BitVec 32) (v9 : BitVec 32) (v16 : BitVec 32) (c4_i32_109 : BitVec 32) :
    Inv m ρ K c 7 ⊢ wp frame (wpE (defs₀ (F := F)) 𝒱₀ (c : Thread nD τ) none) Set.univ (k0_part6 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v5 v8 v9 v16 c4_i32_109)
      (fun r => iprop(⌜True⌝ ∗ Inv m ρ K c 9)) := by
  rw [k0_part6_eq_skeleton]; unfold k0_part6_skel
  simp only [Prog.lift, Prog.bind_op, Prog.bind_ret, Prog.pure_eq_ret]
  refine step_send_own m ρ K c (t := 1) rfl (by decide) (dev11_eq c) (src_off1 c 1 (by decide)) rfl rfl rfl ?_
  refine step_send_own m ρ K c (t := 8) rfl (by decide) (dev12_eq c) (src_off2 c) rfl rfl rfl ?_
  exact part_end c trivial

/-- The kernel's part 7: no step. -/
theorem part7 (v16 : BitVec 32) (v19 : BitVec 32) (c1024_i32_132 : BitVec 32) :
    Inv m ρ K c 9 ⊢ wp frame (wpE (defs₀ (F := F)) 𝒱₀ (c : Thread nD τ) none) Set.univ (k0_part7 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 v16 v19 c1024_i32_132)
      (fun r => iprop(⌜True⌝ ∗ Inv m ρ K c 9)) := by
  rw [k0_part7_eq_skeleton]; unfold k0_part7_skel
  simp only [Prog.lift, Prog.bind_op, Prog.bind_ret, Prog.pure_eq_ret]
  exact part_end c trivial

/-- The kernel's part 8: no step. -/
theorem part8 (v5 : BitVec 32) (v8 : BitVec 32) (v9 : BitVec 32) (v19 : BitVec 32) (c1024_i32_162 : BitVec 32) :
    Inv m ρ K c 9 ⊢ wp frame (wpE (defs₀ (F := F)) 𝒱₀ (c : Thread nD τ) none) Set.univ (k0_part8 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 v5 v8 v9 v19 c1024_i32_162)
      (fun r => iprop(⌜True⌝ ∗ Inv m ρ K c 9)) := by
  rw [k0_part8_eq_skeleton]; unfold k0_part8_skel
  simp only [Prog.lift, Prog.bind_op, Prog.bind_ret, Prog.pure_eq_ret]
  exact part_end c trivial

/-- The kernel's part 9: steps 9 to 11. -/
theorem part9 (v2 : BitVec 32) (v5 : BitVec 32) (v8 : BitVec 32) (v10 : BitVec 32) (v11 : BitVec 32) (v13 : BitVec 32) :
    Inv m ρ K c 9 ⊢ wp frame (wpE (defs₀ (F := F)) 𝒱₀ (c : Thread nD τ) none) Set.univ (k0_part9 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v13)
      (fun r => iprop(⌜r.2 = rows (xstg m ρ c) (k0_off3 c 640#32) S128x1024.size (k0_off3_inb c 5)⌝ ∗ Inv m ρ K c 12)) := by
  rw [k0_part9_eq_skeleton]; unfold k0_part9_skel
  simp only [Prog.lift, Prog.bind_op, Prog.bind_ret, Prog.pure_eq_ret]
  refine step_land m ρ K c (t := 5) rfl rfl rfl ?_
  refine step_send_pass m ρ K c (t := 14) rfl (by decide) (dev13_eq c) (src_off1 c 14 (by decide)) rfl rfl rfl ?_
  refine step_send_pass m ρ K c (t := 22) rfl (by decide) (dev14_eq c) (src_off1 c 22 (by decide)) rfl rfl rfl ?_
  refine step_load_x m ρ K c ?_
  exact part_end c (by dsimp only; rw [pay1_id])

/-- The kernel's part 10: steps 12 to 14. -/
theorem part10 (v2 : BitVec 32) (v5 : BitVec 32) (v8 : BitVec 32) (v9 : BitVec 32) (v10 : BitVec 32) (v13 : BitVec 32) (v286 : BitVec 32) (v289 : FVec F S128x1024 .f32) (hv : v289 = rows (xstg m ρ c) (k0_off3 c 640#32) S128x1024.size (k0_off3_inb c 5)) :
    Inv m ρ K c 12 ⊢ wp frame (wpE (defs₀ (F := F)) 𝒱₀ (c : Thread nD τ) none) Set.univ (k0_part10 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v9 v10 v13 v286 v289)
      (fun r => iprop(⌜True⌝ ∗ Inv m ρ K c 15)) := by
  rw [k0_part10_eq_skeleton]; unfold k0_part10_skel
  simp only [Prog.lift, Prog.bind_op, Prog.bind_ret, Prog.pure_eq_ret]
  subst hv
  refine step_load_r m ρ K c (add_off3 c 5 (by decide)) rfl (sub_landed c 5 (by decide)) ?_
  refine step_load_o m ρ K c fun _ => ?_
  refine step_store m ρ K c (t := 5) rfl (add_off3 c 5 (by decide)) rfl (addBand_sub c 5 (by decide)) rfl ?_
  refine step_land m ρ K c (t := 3) rfl rfl rfl ?_
  refine step_send_pass m ρ K c (t := 12) rfl (by decide) (dev15_eq c) (src_off1 c 12 (by decide)) rfl rfl rfl ?_
  exact part_end c trivial

/-- The kernel's part 11: steps 15 to 17. -/
theorem part11 (v2 : BitVec 32) (v5 : BitVec 32) (v8 : BitVec 32) (v9 : BitVec 32) (v10 : BitVec 32) (v11 : BitVec 32) (v13 : BitVec 32) (v320 : BitVec 32) (v321 : BitVec 32) :
    Inv m ρ K c 15 ⊢ wp frame (wpE (defs₀ (F := F)) 𝒱₀ (c : Thread nD τ) none) Set.univ (k0_part11 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v9 v10 v11 v13 v320 v321)
      (fun r => iprop(⌜True⌝ ∗ Inv m ρ K c 18)) := by
  rw [k0_part11_eq_skeleton]; unfold k0_part11_skel
  simp only [Prog.lift, Prog.bind_op, Prog.bind_ret, Prog.pure_eq_ret]
  refine step_send_pass m ρ K c (t := 20) rfl (by decide) (dev16_eq c) (src_off1 c 20 (by decide)) rfl rfl rfl ?_
  refine step_load_x m ρ K c ?_
  refine step_load_r m ρ K c (add_off3 c 3 (by decide)) rfl (sub_landed c 3 (by decide)) ?_
  refine step_load_o m ρ K c fun _ => ?_
  refine step_store m ρ K c (t := 3) rfl (add_off3 c 3 (by decide)) rfl (addBand_sub c 3 (by decide)) (rows_sum m ρ c _) ?_
  refine step_land m ρ K c (t := 4) rfl rfl rfl ?_
  exact part_end c trivial

/-- The kernel's part 12: steps 18 to 20. -/
theorem part12 (v2 : BitVec 32) (v5 : BitVec 32) (v8 : BitVec 32) (v10 : BitVec 32) (v11 : BitVec 32) (v13 : BitVec 32) (v354 : BitVec 32) (v355 : BitVec 32) :
    Inv m ρ K c 18 ⊢ wp frame (wpE (defs₀ (F := F)) 𝒱₀ (c : Thread nD τ) none) Set.univ (k0_part12 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v13 v354 v355)
      (fun r => iprop(⌜True⌝ ∗ Inv m ρ K c 21)) := by
  rw [k0_part12_eq_skeleton]; unfold k0_part12_skel
  simp only [Prog.lift, Prog.bind_op, Prog.bind_ret, Prog.pure_eq_ret]
  refine step_send_pass m ρ K c (t := 13) rfl (by decide) (dev17_eq c) (src_off1 c 13 (by decide)) rfl rfl rfl ?_
  refine step_send_pass m ρ K c (t := 21) rfl (by decide) (dev18_eq c) (src_off1 c 21 (by decide)) rfl rfl rfl ?_
  refine step_load_x m ρ K c ?_
  refine step_load_r m ρ K c (add_off3 c 4 (by decide)) rfl (sub_landed c 4 (by decide)) ?_
  refine step_load_o m ρ K c fun _ => ?_
  refine step_store m ρ K c (t := 4) rfl (add_off3 c 4 (by decide)) rfl (addBand_sub c 4 (by decide)) (rows_sum m ρ c _) ?_
  exact part_end c trivial

/-- The kernel's part 13: steps 21 to 23. -/
theorem part13 (v2 : BitVec 32) (v5 : BitVec 32) (v8 : BitVec 32) (v11 : BitVec 32) (v16 : BitVec 32) (v23 : BitVec 32) (v390 : BitVec 32) (c1_i32_283 : BitVec 32) :
    Inv m ρ K c 21 ⊢ wp frame (wpE (defs₀ (F := F)) 𝒱₀ (c : Thread nD τ) none) Set.univ (k0_part13 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v11 v16 v23 v390 c1_i32_283)
      (fun r => iprop(⌜True⌝ ∗ Inv m ρ K c 24)) := by
  rw [k0_part13_eq_skeleton]; unfold k0_part13_skel
  simp only [Prog.lift, Prog.bind_op, Prog.bind_ret, Prog.pure_eq_ret]
  refine step_land m ρ K c (t := 14) rfl rfl rfl ?_
  refine step_land m ρ K c (t := 22) rfl rfl rfl ?_
  refine step_send_pass m ρ K c (t := 25) rfl (by decide) (dev19_eq c) (src_off6 c) rfl rfl rfl ?_
  exact part_end c trivial

/-- The kernel's part 14: steps 24 to 25. -/
theorem part14 (v2 : BitVec 32) (v8 : BitVec 32) (v10 : BitVec 32) (v16 : BitVec 32) (v19 : BitVec 32) (v23 : BitVec 32) (v423 : BitVec 32) (c640_i32_307 : BitVec 32) :
    Inv m ρ K c 24 ⊢ wp frame (wpE (defs₀ (F := F)) 𝒱₀ (c : Thread nD τ) none) Set.univ (k0_part14 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v8 v10 v16 v19 v23 v423 c640_i32_307)
      (fun r => iprop(⌜True⌝ ∗ Inv m ρ K c 26)) := by
  rw [k0_part14_eq_skeleton]; unfold k0_part14_skel
  simp only [Prog.lift, Prog.bind_op, Prog.bind_ret, Prog.pure_eq_ret]
  refine step_send_pass m ρ K c (t := 28) rfl (by decide) (dev20_eq c) (src_off7 c) rfl rfl rfl ?_
  refine step_load_x m ρ K c ?_
  refine step_load_r m ρ K c (add_off8 c 14 (by decide)) rfl (sub_landed c 14 (by decide)) ?_
  refine step_load_o m ρ K c fun _ => ?_
  refine step_store m ρ K c (t := 14) rfl (add_off8 c 14 (by decide)) rfl (addBand_sub c 14 (by decide)) (rows_sum m ρ c _) ?_
  exact part_end c trivial

end Cert.MeshSum

end
-- ==== Proof.BodyB.lean ====
/-
# The run of a device: steps 26 to 45

The kernel's parts 15 to 21, step by step.
-/
module

public import proofs.«01_k».proof.Proof.Places

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Own → ℕ) (c : Dev nD)

/-- The kernel's part 15: steps 26 to 28. -/
theorem part15 (v2 : BitVec 32) (v5 : BitVec 32) (v8 : BitVec 32) (v9 : BitVec 32) (v10 : BitVec 32) (v13 : BitVec 32) (v457 : BitVec 32) :
    Inv m ρ K c 26 ⊢ wp frame (wpE (defs₀ (F := F)) 𝒱₀ (c : Thread nD τ) none) Set.univ (k0_part15 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v9 v10 v13 v457)
      (fun r => iprop(⌜True⌝ ∗ Inv m ρ K c 29)) := by
  rw [k0_part15_eq_skeleton]; unfold k0_part15_skel
  simp only [Prog.lift, Prog.bind_op, Prog.bind_ret, Prog.pure_eq_ret]
  refine step_load_x m ρ K c ?_
  refine step_load_r m ρ K c (add_off9 c 22 (by decide)) rfl (sub_landed c 22 (by decide)) ?_
  refine step_load_o m ρ K c fun _ => ?_
  refine step_store m ρ K c (t := 22) rfl (add_off9 c 22 (by decide)) rfl (addBand_sub c 22 (by decide)) (rows_sum m ρ c _) ?_
  refine step_land m ρ K c (t := 6) rfl rfl rfl ?_
  refine step_send_pass m ρ K c (t := 15) rfl (by decide) (dev21_eq c) (src_off1 c 15 (by decide)) rfl rfl rfl ?_
  exact part_end c trivial

/-- The kernel's part 16: steps 29 to 31. -/
theorem part16 (v2 : BitVec 32) (v5 : BitVec 32) (v8 : BitVec 32) (v10 : BitVec 32) (v11 : BitVec 32) (v13 : BitVec 32) :
    Inv m ρ K c 29 ⊢ wp frame (wpE (defs₀ (F := F)) 𝒱₀ (c : Thread nD τ) none) Set.univ (k0_part16 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v13)
      (fun r => iprop(⌜True⌝ ∗ Inv m ρ K c 32)) := by
  rw [k0_part16_eq_skeleton]; unfold k0_part16_skel
  simp only [Prog.lift, Prog.bind_op, Prog.bind_ret, Prog.pure_eq_ret]
  refine step_send_pass m ρ K c (t := 23) rfl (by decide) (dev22_eq c) (src_off1 c 23 (by decide)) rfl rfl rfl ?_
  refine step_load_x m ρ K c ?_
  refine step_load_r m ρ K c (add_off3 c 6 (by decide)) rfl (sub_landed c 6 (by decide)) ?_
  refine step_load_o m ρ K c fun _ => ?_
  refine step_store m ρ K c (t := 6) rfl (add_off3 c 6 (by decide)) rfl (addBand_sub c 6 (by decide)) (rows_sum m ρ c _) ?_
  refine step_land m ρ K c (t := 12) rfl rfl rfl ?_
  exact part_end c trivial

/-- The kernel's part 17: steps 32 to 33. -/
theorem part17 (v2 : BitVec 32) (v5 : BitVec 32) (v11 : BitVec 32) (v16 : BitVec 32) (v23 : BitVec 32) (v524 : BitVec 32) :
    Inv m ρ K c 32 ⊢ wp frame (wpE (defs₀ (F := F)) 𝒱₀ (c : Thread nD τ) none) Set.univ (k0_part17 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v11 v16 v23 v524)
      (fun r => iprop(⌜r.2 = rows (xstg m ρ c) (k0_off8 c 384#32) S128x1024.size (k0_off8_inb c 3)⌝ ∗ Inv m ρ K c 34)) := by
  rw [k0_part17_eq_skeleton]; unfold k0_part17_skel
  simp only [Prog.lift, Prog.bind_op, Prog.bind_ret, Prog.pure_eq_ret]
  refine step_land m ρ K c (t := 20) rfl rfl rfl ?_
  refine step_send_pass m ρ K c (t := 26) rfl (by decide) (dev23_eq c) (src_off10 c) rfl rfl rfl ?_
  refine step_load_x m ρ K c ?_
  exact part_end c (by dsimp only; rw [pay8_id])

/-- The kernel's part 18: steps 34 to 36. -/
theorem part18 (v2 : BitVec 32) (v5 : BitVec 32) (v8 : BitVec 32) (v9 : BitVec 32) (v10 : BitVec 32) (v13 : BitVec 32) (v19 : BitVec 32) (v554 : BitVec 32) (v557 : FVec F S128x1024 .f32) (hv : v557 = rows (xstg m ρ c) (k0_off8 c 384#32) S128x1024.size (k0_off8_inb c 3)) :
    Inv m ρ K c 34 ⊢ wp frame (wpE (defs₀ (F := F)) 𝒱₀ (c : Thread nD τ) none) Set.univ (k0_part18 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v9 v10 v13 v19 v554 v557)
      (fun r => iprop(⌜True⌝ ∗ Inv m ρ K c 37)) := by
  rw [k0_part18_eq_skeleton]; unfold k0_part18_skel
  simp only [Prog.lift, Prog.bind_op, Prog.bind_ret, Prog.pure_eq_ret]
  subst hv
  refine step_load_r m ρ K c (add_off8 c 12 (by decide)) rfl (sub_landed c 12 (by decide)) ?_
  refine step_load_o m ρ K c fun _ => ?_
  refine step_store m ρ K c (t := 12) rfl (add_off8 c 12 (by decide)) rfl (addBand_sub c 12 (by decide)) rfl ?_
  refine step_load_x m ρ K c ?_
  refine step_load_r m ρ K c (add_off9 c 20 (by decide)) rfl (sub_landed c 20 (by decide)) ?_
  refine step_load_o m ρ K c fun _ => ?_
  refine step_store m ρ K c (t := 20) rfl (add_off9 c 20 (by decide)) rfl (addBand_sub c 20 (by decide)) (rows_sum m ρ c _) ?_
  refine step_land m ρ K c (t := 7) rfl rfl rfl ?_
  exact part_end c trivial

/-- The kernel's part 19: steps 37 to 39. -/
theorem part19 (v2 : BitVec 32) (v5 : BitVec 32) (v8 : BitVec 32) (v10 : BitVec 32) (v11 : BitVec 32) (v13 : BitVec 32) :
    Inv m ρ K c 37 ⊢ wp frame (wpE (defs₀ (F := F)) 𝒱₀ (c : Thread nD τ) none) Set.univ (k0_part19 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v13)
      (fun r => iprop(⌜True⌝ ∗ Inv m ρ K c 40)) := by
  rw [k0_part19_eq_skeleton]; unfold k0_part19_skel
  simp only [Prog.lift, Prog.bind_op, Prog.bind_ret, Prog.pure_eq_ret]
  refine step_send_pass m ρ K c (t := 16) rfl (by decide) (dev24_eq c) (src_off1 c 16 (by decide)) rfl rfl rfl ?_
  refine step_send_pass m ρ K c (t := 24) rfl (by decide) (dev25_eq c) (src_off1 c 24 (by decide)) rfl rfl rfl ?_
  refine step_load_x m ρ K c ?_
  refine step_load_r m ρ K c (add_off3 c 7 (by decide)) rfl (sub_landed c 7 (by decide)) ?_
  refine step_load_o m ρ K c fun _ => ?_
  refine step_store m ρ K c (t := 7) rfl (add_off3 c 7 (by decide)) rfl (addBand_sub c 7 (by decide)) (rows_sum m ρ c _) ?_
  exact part_end c trivial

/-- The kernel's part 20: steps 40 to 42. -/
theorem part20 (v2 : BitVec 32) (v5 : BitVec 32) (v11 : BitVec 32) (v16 : BitVec 32) (v23 : BitVec 32) :
    Inv m ρ K c 40 ⊢ wp frame (wpE (defs₀ (F := F)) 𝒱₀ (c : Thread nD τ) none) Set.univ (k0_part20 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v11 v16 v23)
      (fun r => iprop(⌜True⌝ ∗ Inv m ρ K c 43)) := by
  rw [k0_part20_eq_skeleton]; unfold k0_part20_skel
  simp only [Prog.lift, Prog.bind_op, Prog.bind_ret, Prog.pure_eq_ret]
  refine step_land m ρ K c (t := 13) rfl rfl rfl ?_
  refine step_land m ρ K c (t := 21) rfl rfl rfl ?_
  refine step_send_pass m ρ K c (t := 27) rfl (by decide) (dev26_eq c) (src_off4 c) rfl rfl rfl ?_
  exact part_end c trivial

/-- The kernel's part 21: steps 43 to 45. -/
theorem part21 (v2 : BitVec 32) (v5 : BitVec 32) (v8 : BitVec 32) (v9 : BitVec 32) (v13 : BitVec 32) (v19 : BitVec 32) (v659 : BitVec 32) :
    Inv m ρ K c 43 ⊢ wp frame (wpE (defs₀ (F := F)) 𝒱₀ (c : Thread nD τ) none) Set.univ (k0_part21 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v9 v13 v19 v659)
      (fun r => iprop(⌜True⌝ ∗ Inv m ρ K c 46)) := by
  rw [k0_part21_eq_skeleton]; unfold k0_part21_skel
  simp only [Prog.lift, Prog.bind_op, Prog.bind_ret, Prog.pure_eq_ret]
  refine step_load_x m ρ K c ?_
  refine step_load_r m ρ K c (add_off8 c 13 (by decide)) rfl (sub_landed c 13 (by decide)) ?_
  refine step_load_o m ρ K c fun _ => ?_
  refine step_store m ρ K c (t := 13) rfl (add_off8 c 13 (by decide)) rfl (addBand_sub c 13 (by decide)) (rows_sum m ρ c _) ?_
  refine step_load_x m ρ K c ?_
  refine step_load_r m ρ K c (add_off9 c 21 (by decide)) rfl (sub_landed c 21 (by decide)) ?_
  refine step_load_o m ρ K c fun _ => ?_
  refine step_store m ρ K c (t := 21) rfl (add_off9 c 21 (by decide)) rfl (addBand_sub c 21 (by decide)) (rows_sum m ρ c _) ?_
  refine step_land m ρ K c (t := 2) rfl rfl rfl ?_
  exact part_end c trivial

end Cert.MeshSum

end
-- ==== Proof.BodyC.lean ====
/-
# The run of a device: steps 46 to 62

The kernel's parts 22 to 27, step by step.
-/
module

public import proofs.«01_k».proof.Proof.Places

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Own → ℕ) (c : Dev nD)

/-- The kernel's part 22: steps 46 to 48. -/
theorem part22 (v2 : BitVec 32) (v5 : BitVec 32) (v8 : BitVec 32) (v10 : BitVec 32) (v11 : BitVec 32) (v13 : BitVec 32) (v692 : BitVec 32) (c2_i32_494 : BitVec 32) :
    Inv m ρ K c 46 ⊢ wp frame (wpE (defs₀ (F := F)) 𝒱₀ (c : Thread nD τ) none) Set.univ (k0_part22 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v13 v692 c2_i32_494)
      (fun r => iprop(⌜True⌝ ∗ Inv m ρ K c 49)) := by
  rw [k0_part22_eq_skeleton]; unfold k0_part22_skel
  simp only [Prog.lift, Prog.bind_op, Prog.bind_ret, Prog.pure_eq_ret]
  refine step_send_pass m ρ K c (t := 11) rfl (by decide) (dev27_eq c) (src_off1 c 11 (by decide)) rfl rfl rfl ?_
  refine step_send_pass m ρ K c (t := 19) rfl (by decide) (dev28_eq c) (src_off1 c 19 (by decide)) rfl rfl rfl ?_
  refine step_load_x m ρ K c ?_
  refine step_load_r m ρ K c (add_off3 c 2 (by decide)) rfl (sub_landed c 2 (by decide)) ?_
  refine step_load_o m ρ K c fun _ => ?_
  refine step_store m ρ K c (t := 2) rfl (add_off3 c 2 (by decide)) rfl (addBand_sub c 2 (by decide)) (rows_sum m ρ c _) ?_
  exact part_end c trivial

/-- The kernel's part 23: steps 49 to 51. -/
theorem part23 (v2 : BitVec 32) (v5 : BitVec 32) (v8 : BitVec 32) (v10 : BitVec 32) (v11 : BitVec 32) (v19 : BitVec 32) (v23 : BitVec 32) (v728 : BitVec 32) :
    Inv m ρ K c 49 ⊢ wp frame (wpE (defs₀ (F := F)) 𝒱₀ (c : Thread nD τ) none) Set.univ (k0_part23 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v19 v23 v728)
      (fun r => iprop(⌜True⌝ ∗ Inv m ρ K c 52)) := by
  rw [k0_part23_eq_skeleton]; unfold k0_part23_skel
  simp only [Prog.lift, Prog.bind_op, Prog.bind_ret, Prog.pure_eq_ret]
  refine step_land m ρ K c (t := 15) rfl rfl rfl ?_
  refine step_land m ρ K c (t := 23) rfl rfl rfl ?_
  refine step_send_pass m ρ K c (t := 29) rfl (by decide) (dev29_eq c) (src_off5 c 29 (by decide)) rfl rfl rfl ?_
  exact part_end c trivial

/-- The kernel's part 24: steps 52 to 54. -/
theorem part24 (v5 : BitVec 32) (v8 : BitVec 32) (v9 : BitVec 32) (v13 : BitVec 32) (v16 : BitVec 32) (v19 : BitVec 32) (v23 : BitVec 32) (v761 : BitVec 32) :
    Inv m ρ K c 52 ⊢ wp frame (wpE (defs₀ (F := F)) 𝒱₀ (c : Thread nD τ) none) Set.univ (k0_part24 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v5 v8 v9 v13 v16 v19 v23 v761)
      (fun r => iprop(⌜True⌝ ∗ Inv m ρ K c 55)) := by
  rw [k0_part24_eq_skeleton]; unfold k0_part24_skel
  simp only [Prog.lift, Prog.bind_op, Prog.bind_ret, Prog.pure_eq_ret]
  refine step_load_x m ρ K c ?_
  refine step_load_r m ρ K c (add_off8 c 15 (by decide)) rfl (sub_landed c 15 (by decide)) ?_
  refine step_load_o m ρ K c fun _ => ?_
  refine step_store m ρ K c (t := 15) rfl (add_off8 c 15 (by decide)) rfl (addBand_sub c 15 (by decide)) (rows_sum m ρ c _) ?_
  refine step_load_x m ρ K c ?_
  refine step_load_r m ρ K c (add_off9 c 23 (by decide)) rfl (sub_landed c 23 (by decide)) ?_
  refine step_load_o m ρ K c fun _ => ?_
  refine step_store m ρ K c (t := 23) rfl (add_off9 c 23 (by decide)) rfl (addBand_sub c 23 (by decide)) (rows_sum m ρ c _) ?_
  refine step_land m ρ K c (t := 0) rfl rfl rfl ?_
  exact part_end c trivial

/-- The kernel's part 25: steps 55 to 57. -/
theorem part25 (v2 : BitVec 32) (v5 : BitVec 32) (v8 : BitVec 32) (v10 : BitVec 32) (v11 : BitVec 32) (v13 : BitVec 32) (v795 : BitVec 32) (c0_i32_562 : BitVec 32) :
    Inv m ρ K c 55 ⊢ wp frame (wpE (defs₀ (F := F)) 𝒱₀ (c : Thread nD τ) none) Set.univ (k0_part25 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v13 v795 c0_i32_562)
      (fun r => iprop(⌜True⌝ ∗ Inv m ρ K c 58)) := by
  rw [k0_part25_eq_skeleton]; unfold k0_part25_skel
  simp only [Prog.lift, Prog.bind_op, Prog.bind_ret, Prog.pure_eq_ret]
  refine step_send_pass m ρ K c (t := 9) rfl (by decide) (dev30_eq c) (src_off1 c 9 (by decide)) rfl rfl rfl ?_
  refine step_send_pass m ρ K c (t := 17) rfl (by decide) (dev31_eq c) (src_off1 c 17 (by decide)) rfl rfl rfl ?_
  refine step_load_x m ρ K c ?_
  refine step_load_r m ρ K c (add_off3 c 0 (by decide)) rfl (sub_landed c 0 (by decide)) ?_
  refine step_load_o m ρ K c fun _ => ?_
  refine step_store m ρ K c (t := 0) rfl (add_off3 c 0 (by decide)) rfl (addBand_sub c 0 (by decide)) (rows_sum m ρ c _) ?_
  exact part_end c trivial

/-- The kernel's part 26: steps 58 to 59. -/
theorem part26 (v2 : BitVec 32) (v5 : BitVec 32) (v8 : BitVec 32) (v10 : BitVec 32) (v11 : BitVec 32) (v19 : BitVec 32) :
    Inv m ρ K c 58 ⊢ wp frame (wpE (defs₀ (F := F)) 𝒱₀ (c : Thread nD τ) none) Set.univ (k0_part26 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v19)
      (fun r => iprop(⌜True⌝ ∗ Inv m ρ K c 60)) := by
  rw [k0_part26_eq_skeleton]; unfold k0_part26_skel
  simp only [Prog.lift, Prog.bind_op, Prog.bind_ret, Prog.pure_eq_ret]
  refine step_land m ρ K c (t := 16) rfl rfl rfl ?_
  refine step_land m ρ K c (t := 24) rfl rfl rfl ?_
  exact part_end c trivial

/-- The kernel's part 27: steps 60 to 62. -/
theorem part27 (v5 : BitVec 32) (v8 : BitVec 32) (v9 : BitVec 32) (v16 : BitVec 32) (v19 : BitVec 32) (v23 : BitVec 32) :
    Inv m ρ K c 60 ⊢ wp frame (wpE (defs₀ (F := F)) 𝒱₀ (c : Thread nD τ) none) Set.univ (k0_part27 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v5 v8 v9 v16 v19 v23)
      (fun r => iprop(⌜True⌝ ∗ Inv m ρ K c 63)) := by
  rw [k0_part27_eq_skeleton]; unfold k0_part27_skel
  simp only [Prog.lift, Prog.bind_op, Prog.bind_ret, Prog.pure_eq_ret]
  refine step_send_pass m ρ K c (t := 30) rfl (by decide) (dev32_eq c) (src_off5 c 30 (by decide)) rfl rfl rfl ?_
  refine step_load_x m ρ K c ?_
  refine step_load_r m ρ K c (add_off8 c 16 (by decide)) rfl (sub_landed c 16 (by decide)) ?_
  refine step_load_o m ρ K c fun _ => ?_
  refine step_store m ρ K c (t := 16) rfl (add_off8 c 16 (by decide)) rfl (addBand_sub c 16 (by decide)) (rows_sum m ρ c _) ?_
  refine step_load_x m ρ K c ?_
  refine step_load_r m ρ K c (add_off9 c 24 (by decide)) rfl (sub_landed c 24 (by decide)) ?_
  refine step_load_o m ρ K c fun _ => ?_
  refine step_store m ρ K c (t := 24) rfl (add_off9 c 24 (by decide)) rfl (addBand_sub c 24 (by decide)) (rows_sum m ρ c _) ?_
  exact part_end c trivial

end Cert.MeshSum

end
-- ==== Proof.BodyD.lean ====
/-
# The run of a device: steps 63 to 82

The kernel's parts 28 to 33, step by step.
-/
module

public import proofs.«01_k».proof.Proof.Places

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Own → ℕ) (c : Dev nD)

/-- The kernel's part 28: steps 63 to 65. -/
theorem part28 (v2 : BitVec 32) (v5 : BitVec 32) (v8 : BitVec 32) (v10 : BitVec 32) (v11 : BitVec 32) (v13 : BitVec 32) :
    Inv m ρ K c 63 ⊢ wp frame (wpE (defs₀ (F := F)) 𝒱₀ (c : Thread nD τ) none) Set.univ (k0_part28 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v13)
      (fun r => iprop(⌜r.2 = rows (xstg m ρ c) (k0_off3 c 128#32) S128x1024.size (k0_off3_inb c 1)⌝ ∗ Inv m ρ K c 66)) := by
  rw [k0_part28_eq_skeleton]; unfold k0_part28_skel
  simp only [Prog.lift, Prog.bind_op, Prog.bind_ret, Prog.pure_eq_ret]
  refine step_land m ρ K c (t := 1) rfl rfl rfl ?_
  refine step_send_pass m ρ K c (t := 10) rfl (by decide) (dev33_eq c) (src_off1 c 10 (by decide)) rfl rfl rfl ?_
  refine step_send_pass m ρ K c (t := 18) rfl (by decide) (dev34_eq c) (src_off1 c 18 (by decide)) rfl rfl rfl ?_
  refine step_load_x m ρ K c ?_
  exact part_end c (by dsimp only; rw [pay20_id])

/-- The kernel's part 29: steps 66 to 68. -/
theorem part29 (v2 : BitVec 32) (v5 : BitVec 32) (v8 : BitVec 32) (v10 : BitVec 32) (v11 : BitVec 32) (v16 : BitVec 32) (v928 : BitVec 32) (v931 : FVec F S128x1024 .f32) (hv : v931 = rows (xstg m ρ c) (k0_off3 c 128#32) S128x1024.size (k0_off3_inb c 1)) :
    Inv m ρ K c 66 ⊢ wp frame (wpE (defs₀ (F := F)) 𝒱₀ (c : Thread nD τ) none) Set.univ (k0_part29 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v16 v928 v931)
      (fun r => iprop(⌜r = rows (outAt m ρ c) (k0_off8 c 256#32) S128x1024.size (k0_off8_inb c 2)⌝ ∗ Inv m ρ K c 69)) := by
  rw [k0_part29_eq_skeleton]; unfold k0_part29_skel
  simp only [Prog.lift, Prog.bind_op, Prog.bind_ret, Prog.pure_eq_ret]
  subst hv
  refine step_load_r m ρ K c (add_off3 c 1 (by decide)) rfl (sub_landed c 1 (by decide)) ?_
  refine step_load_o m ρ K c fun _ => ?_
  refine step_store m ρ K c (t := 1) rfl (add_off3 c 1 (by decide)) rfl (addBand_sub c 1 (by decide)) rfl ?_
  refine step_land m ρ K c (t := 11) rfl rfl rfl ?_
  refine step_land m ρ K c (t := 19) rfl rfl rfl ?_
  refine step_load_x m ρ K c ?_
  refine step_load_r m ρ K c (add_off8 c 11 (by decide)) rfl (sub_landed c 11 (by decide)) ?_
  refine step_load_o m ρ K c fun _ => ?_
  exact part_end c (rows_sum m ρ c _)

/-- The kernel's part 30: steps 69 to 72. -/
theorem part30 (v2 : BitVec 32) (v5 : BitVec 32) (v8 : BitVec 32) (v10 : BitVec 32) (v11 : BitVec 32) (v16 : BitVec 32) (v19 : BitVec 32) (v964 : FVec F S128x1024 .f32) (hv : v964 = rows (outAt m ρ c) (k0_off8 c 256#32) S128x1024.size (k0_off8_inb c 2)) :
    Inv m ρ K c 69 ⊢ wp frame (wpE (defs₀ (F := F)) 𝒱₀ (c : Thread nD τ) none) Set.univ (k0_part30 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v16 v19 v964)
      (fun r => iprop(⌜True⌝ ∗ Inv m ρ K c 73)) := by
  rw [k0_part30_eq_skeleton]; unfold k0_part30_skel
  simp only [Prog.lift, Prog.bind_op, Prog.bind_ret, Prog.pure_eq_ret]
  subst hv
  refine step_store m ρ K c (t := 11) rfl (add_off8 c 11 (by decide)) rfl (addBand_sub c 11 (by decide)) rfl ?_
  refine step_load_x m ρ K c ?_
  refine step_load_r m ρ K c (add_off9 c 19 (by decide)) rfl (sub_landed c 19 (by decide)) ?_
  refine step_load_o m ρ K c fun _ => ?_
  refine step_store m ρ K c (t := 19) rfl (add_off9 c 19 (by decide)) rfl (addBand_sub c 19 (by decide)) (rows_sum m ρ c _) ?_
  refine step_land m ρ K c (t := 9) rfl rfl rfl ?_
  refine step_land m ρ K c (t := 17) rfl rfl rfl ?_
  exact part_end c trivial

/-- The kernel's part 31: steps 73 to 75. -/
theorem part31 (v2 : BitVec 32) (v5 : BitVec 32) (v8 : BitVec 32) (v10 : BitVec 32) (v11 : BitVec 32) (v19 : BitVec 32) (v998 : BitVec 32) :
    Inv m ρ K c 73 ⊢ wp frame (wpE (defs₀ (F := F)) 𝒱₀ (c : Thread nD τ) none) Set.univ (k0_part31 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v19 v998)
      (fun r => iprop(⌜True⌝ ∗ Inv m ρ K c 76)) := by
  rw [k0_part31_eq_skeleton]; unfold k0_part31_skel
  simp only [Prog.lift, Prog.bind_op, Prog.bind_ret, Prog.pure_eq_ret]
  refine step_load_x m ρ K c ?_
  refine step_load_r m ρ K c (add_off8 c 9 (by decide)) rfl (sub_landed c 9 (by decide)) ?_
  refine step_load_o m ρ K c fun _ => ?_
  refine step_store m ρ K c (t := 9) rfl (add_off8 c 9 (by decide)) rfl (addBand_sub c 9 (by decide)) (rows_sum m ρ c _) ?_
  refine step_load_x m ρ K c ?_
  refine step_load_r m ρ K c (add_off9 c 17 (by decide)) rfl (sub_landed c 17 (by decide)) ?_
  refine step_load_o m ρ K c fun _ => ?_
  refine step_store m ρ K c (t := 17) rfl (add_off9 c 17 (by decide)) rfl (addBand_sub c 17 (by decide)) (rows_sum m ρ c _) ?_
  refine step_land m ρ K c (t := 10) rfl rfl rfl ?_
  exact part_end c trivial

/-- The kernel's part 32: steps 76 to 79. -/
theorem part32 (v5 : BitVec 32) (v8 : BitVec 32) (v9 : BitVec 32) (v16 : BitVec 32) (v19 : BitVec 32) (v23 : BitVec 32) :
    Inv m ρ K c 76 ⊢ wp frame (wpE (defs₀ (F := F)) 𝒱₀ (c : Thread nD τ) none) Set.univ (k0_part32 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v5 v8 v9 v16 v19 v23)
      (fun r => iprop(⌜True⌝ ∗ Inv m ρ K c 80)) := by
  rw [k0_part32_eq_skeleton]; unfold k0_part32_skel
  simp only [Prog.lift, Prog.bind_op, Prog.bind_ret, Prog.pure_eq_ret]
  refine step_land m ρ K c (t := 18) rfl rfl rfl ?_
  refine step_load_x m ρ K c ?_
  refine step_load_r m ρ K c (add_off8 c 10 (by decide)) rfl (sub_landed c 10 (by decide)) ?_
  refine step_load_o m ρ K c fun _ => ?_
  refine step_store m ρ K c (t := 10) rfl (add_off8 c 10 (by decide)) rfl (addBand_sub c 10 (by decide)) (rows_sum m ρ c _) ?_
  refine step_load_x m ρ K c ?_
  refine step_load_r m ρ K c (add_off9 c 18 (by decide)) rfl (sub_landed c 18 (by decide)) ?_
  refine step_load_o m ρ K c fun _ => ?_
  refine step_store m ρ K c (t := 18) rfl (add_off9 c 18 (by decide)) rfl (addBand_sub c 18 (by decide)) (rows_sum m ρ c _) ?_
  refine step_land m ρ K c (t := 8) rfl rfl rfl ?_
  exact part_end c trivial

/-- The kernel's part 33: steps 80 to 82. -/
theorem part33 (v2 : BitVec 32) (v5 : BitVec 32) (v8 : BitVec 32) (v10 : BitVec 32) (v11 : BitVec 32) (v1067 : BitVec 32) :
    Inv m ρ K c 80 ⊢ wp frame (wpE (defs₀ (F := F)) 𝒱₀ (c : Thread nD τ) none) Set.univ (k0_part33 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v1067)
      (fun r => iprop(⌜True⌝ ∗ Inv m ρ K c 83)) := by
  rw [k0_part33_eq_skeleton]; unfold k0_part33_skel
  simp only [Prog.lift, Prog.bind_op, Prog.bind_ret, Prog.pure_eq_ret]
  refine step_load_x m ρ K c ?_
  refine step_load_r m ρ K c (add_off11 c) rfl (sub_landed c 8 (by decide)) ?_
  refine step_load_o m ρ K c fun _ => ?_
  refine step_store m ρ K c (t := 8) rfl (add_off11 c) rfl (addBand_sub c 8 (by decide)) (rows_sum m ρ c _) ?_
  refine step_land m ρ K c (t := 25) rfl rfl rfl ?_
  refine step_land m ρ K c (t := 28) rfl rfl rfl ?_
  exact part_end c trivial

end Cert.MeshSum

end
-- ==== Proof.BodyE.lean ====
/-
# The run of a device: steps 83 to 115

The kernel's parts 34 to 39, step by step.
-/
module

public import proofs.«01_k».proof.Proof.Places

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Own → ℕ) (c : Dev nD)

/-- The kernel's part 34: steps 83 to 85. -/
theorem part34 (v2 : BitVec 32) (v5 : BitVec 32) (v8 : BitVec 32) (v10 : BitVec 32) (v11 : BitVec 32) :
    Inv m ρ K c 83 ⊢ wp frame (wpE (defs₀ (F := F)) 𝒱₀ (c : Thread nD τ) none) Set.univ (k0_part34 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11)
      (fun r => iprop(⌜True⌝ ∗ Inv m ρ K c 86)) := by
  rw [k0_part34_eq_skeleton]; unfold k0_part34_skel
  simp only [Prog.lift, Prog.bind_op, Prog.bind_ret, Prog.pure_eq_ret]
  refine step_land m ρ K c (t := 26) rfl rfl rfl ?_
  refine step_land m ρ K c (t := 27) rfl rfl rfl ?_
  refine step_land m ρ K c (t := 29) rfl rfl rfl ?_
  exact part_end c trivial

/-- The kernel's part 35: steps 86 to 91. -/
theorem part35 (v23 : BitVec 32) :
    Inv m ρ K c 86 ⊢ wp frame (wpE (defs₀ (F := F)) 𝒱₀ (c : Thread nD τ) none) Set.univ (k0_part35 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v23)
      (fun r => iprop(⌜True⌝ ∗ Inv m ρ K c 92)) := by
  rw [k0_part35_eq_skeleton]; unfold k0_part35_skel
  simp only [Prog.lift, Prog.bind_op, Prog.bind_ret, Prog.pure_eq_ret]
  refine step_land m ρ K c (t := 30) rfl rfl rfl ?_
  refine step_load_x m ρ K c ?_
  refine step_load_r m ρ K c (add_off16 c) rfl (sub_last c) ?_
  refine step_load_o m ρ K c fun _ => ?_
  refine step_store m ρ K c (t := 25) rfl (add_off16 c) rfl (addBand_last c) (rows_sum m ρ c _) ?_
  refine step_drain m ρ K c (t := 0) rfl rfl rfl ?_
  refine step_drain m ρ K c (t := 1) rfl rfl rfl ?_
  refine step_drain m ρ K c (t := 2) rfl rfl rfl ?_
  refine step_drain m ρ K c (t := 3) rfl rfl rfl ?_
  exact part_end c trivial

/-- The kernel's part 36: steps 92 to 97. -/
theorem part36 :
    Inv m ρ K c 92 ⊢ wp frame (wpE (defs₀ (F := F)) 𝒱₀ (c : Thread nD τ) none) Set.univ (k0_part36 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c)
      (fun r => iprop(⌜True⌝ ∗ Inv m ρ K c 98)) := by
  rw [k0_part36_eq_skeleton]; unfold k0_part36_skel
  simp only [Prog.lift, Prog.bind_op, Prog.bind_ret, Prog.pure_eq_ret]
  refine step_drain m ρ K c (t := 4) rfl rfl rfl ?_
  refine step_drain m ρ K c (t := 5) rfl rfl rfl ?_
  refine step_drain m ρ K c (t := 6) rfl rfl rfl ?_
  refine step_drain m ρ K c (t := 7) rfl rfl rfl ?_
  refine step_drain m ρ K c (t := 8) rfl rfl rfl ?_
  refine step_drain m ρ K c (t := 14) rfl rfl rfl ?_
  exact part_end c trivial

/-- The kernel's part 37: steps 98 to 103. -/
theorem part37 :
    Inv m ρ K c 98 ⊢ wp frame (wpE (defs₀ (F := F)) 𝒱₀ (c : Thread nD τ) none) Set.univ (k0_part37 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c)
      (fun r => iprop(⌜True⌝ ∗ Inv m ρ K c 104)) := by
  rw [k0_part37_eq_skeleton]; unfold k0_part37_skel
  simp only [Prog.lift, Prog.bind_op, Prog.bind_ret, Prog.pure_eq_ret]
  refine step_drain m ρ K c (t := 12) rfl rfl rfl ?_
  refine step_drain m ρ K c (t := 13) rfl rfl rfl ?_
  refine step_drain m ρ K c (t := 15) rfl rfl rfl ?_
  refine step_drain m ρ K c (t := 16) rfl rfl rfl ?_
  refine step_drain m ρ K c (t := 11) rfl rfl rfl ?_
  refine step_drain m ρ K c (t := 9) rfl rfl rfl ?_
  exact part_end c trivial

/-- The kernel's part 38: steps 104 to 109. -/
theorem part38 :
    Inv m ρ K c 104 ⊢ wp frame (wpE (defs₀ (F := F)) 𝒱₀ (c : Thread nD τ) none) Set.univ (k0_part38 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c)
      (fun r => iprop(⌜True⌝ ∗ Inv m ρ K c 110)) := by
  rw [k0_part38_eq_skeleton]; unfold k0_part38_skel
  simp only [Prog.lift, Prog.bind_op, Prog.bind_ret, Prog.pure_eq_ret]
  refine step_drain m ρ K c (t := 10) rfl rfl rfl ?_
  refine step_drain m ρ K c (t := 22) rfl rfl rfl ?_
  refine step_drain m ρ K c (t := 20) rfl rfl rfl ?_
  refine step_drain m ρ K c (t := 21) rfl rfl rfl ?_
  refine step_drain m ρ K c (t := 23) rfl rfl rfl ?_
  refine step_drain m ρ K c (t := 24) rfl rfl rfl ?_
  exact part_end c trivial

/-- The kernel's part 39: steps 110 to 115. -/
theorem part39 :
    Inv m ρ K c 110 ⊢ wp frame (wpE (defs₀ (F := F)) 𝒱₀ (c : Thread nD τ) none) Set.univ (k0_part39 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c)
      (fun r => iprop(⌜True⌝ ∗ Inv m ρ K c 116)) := by
  rw [k0_part39_eq_skeleton]; unfold k0_part39_skel
  simp only [Prog.lift, Prog.bind_op, Prog.bind_ret, Prog.pure_eq_ret]
  refine step_drain m ρ K c (t := 19) rfl rfl rfl ?_
  refine step_drain m ρ K c (t := 17) rfl rfl rfl ?_
  refine step_drain m ρ K c (t := 18) rfl rfl rfl ?_
  refine step_drain m ρ K c (t := 25) rfl rfl rfl ?_
  refine step_drain m ρ K c (t := 28) rfl rfl rfl ?_
  refine step_drain m ρ K c (t := 26) rfl rfl rfl ?_
  exact part_end c trivial

end Cert.MeshSum

end
-- ==== Proof.Handshake.lean ====
/-
# The handshake, and the whole run

A device first tells its three neighbours that it has entered, handing each the windows of its landing buffer that the neighbour's
transfers fill, and waits for the three to have told it the same. Then come the hundred and nineteen steps.
-/
module

public import proofs.«01_k».proof.Proof.BodyA
public import proofs.«01_k».proof.Proof.BodyB
public import proofs.«01_k».proof.Proof.BodyC
public import proofs.«01_k».proof.Proof.BodyD
public import proofs.«01_k».proof.Proof.BodyE

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Option Own → ℕ) (c : Dev nD)

/-! ## Before the handshake -/

/-- What is dealt to a transfer at the launch. -/
def tokens (c : Dev nD) (t : Tr) : sProp 𝕄 := iprop(dutyTok EM (sCell c t) 0 0 ∗ dutyTok EM (rCell (peer t c) t) 0 0)

/-- What device `c` holds beside its landing buffer, its debt and its part in the barrier. -/
def Rest (c : Dev nD) : sProp 𝕄 :=
  iprop(bigSep Finset.univ (tokens (F := F) c)
    ∗ bigSep Finset.univ (fun t => atPos EM (sCell c t) 0 ∅ 0)
    ∗ bigSep Finset.univ (toCome (F := F) c)
    ∗ bigSep ownTr (srcPts m ρ c)
    ∗ xPts c Finset.univ fullShare.left (xstg m ρ c)
    ∗ xPts c (Finset.univ \ ownTr.biUnion (Src c)) fullShare.right (xstg m ρ c)
    ∗ ∃ g : Arr F, oPts c Finset.univ fullShare g)

/-- What it owes with all its transfers and the barriers `B` ahead. -/
def owingB (c : Dev nD) (B : CellTallies nD τ sig Unit) : sProp 𝕄 := iprop(∃ Wt, owes (c : Thread nD τ) (owed c Finset.univ + B) Wt)

/-- At the start. -/
def Ready (c : Dev nD) : sProp 𝕄 :=
  iprop(records m ρ K ∗ levAts L lv
    ∗ (∃ Wt, owes (c : Thread nD τ) (O₀ c) Wt)
    ∗ dutyTok EM (barCell (flip 0 c)) 0 0 ∗ dutyTok EM (barCell (flip 1 c)) 0 1 ∗ dutyTok EM (barCell (flip 2 c)) 0 2
    ∗ barPay (F := F) (flip 0 c) 0 ∗ barPay (F := F) (flip 1 c) 1 ∗ barPay (F := F) (flip 2 c) 2
    ∗ atPos EM (barCell c) 0 ∅ 0 ∗ cred (tallyAt (barCell c) () 3)
    ∗ Rest m ρ c)
/-- After the first neighbour is told. -/
def Told (c : Dev nD) : sProp 𝕄 :=
  iprop(records m ρ K ∗ levAts L lv
    ∗ (∃ Wt, owes (c : Thread nD τ) (owed c Finset.univ + tallyAt (barCell (flip 2 c)) () 1 + tallyAt (barCell (flip 1 c)) () 1) Wt)
    ∗ dutyTok EM (barCell (flip 1 c)) 0 1 ∗ dutyTok EM (barCell (flip 2 c)) 0 2
    ∗ barPay (F := F) (flip 1 c) 1 ∗ barPay (F := F) (flip 2 c) 2
    ∗ atPos EM (barCell c) 0 ∅ 0 ∗ cred (tallyAt (barCell c) () 3)
    ∗ Rest m ρ c)

omit [FloatOps F] in
/-- The windows device `c` hands over link `l`. -/
theorem barPay_flip (l : Fin 3) : (barPay (F := F) (flip l c) l : sProp 𝕄) = bigSep (over l) fun t => iprop(∃ f, rPts c (W c t) fullShare f) := by
  unfold barPay
  refine bigSep_congr fun t ht => ?_
  have hl : link t = l := (Finset.mem_filter.mp ht).2
  have hp : peer t (flip l c) = c := by unfold peer; rw [hl, flip_flip]
  unfold dstPts Src; rw [hp]

omit [FloatOps F] in
/-- A device's landing buffer, cut up for its neighbours. -/
theorem cut_up (f : Arr F) : (rPts c Finset.univ fullShare f : sProp 𝕄)
    ⊢ iprop(barPay (F := F) (flip 0 c) 0 ∗ barPay (F := F) (flip 1 c) 1 ∗ barPay (F := F) (flip 2 c) 2) := by
  have hw : (rPts c Finset.univ fullShare f : sProp 𝕄) = bigSep Finset.univ fun t => rPts c (W c t) fullShare f := by
    rw [← W_union c]; unfold rPts; exact pointsTo_biUnion _ _ (W_disj_all c _)
  have hu : (Finset.univ : Finset Tr) = over 0 ∪ (over 1 ∪ over 2) := by decide +kernel
  have h1 : Disjoint (over 0) (over 1 ∪ over 2) := by decide +kernel
  have h2 : Disjoint (over 1) (over 2) := by decide +kernel
  rw [hw, hu, bigSep_two h1, bigSep_two h2, barPay_flip, barPay_flip, barPay_flip]
  have hm (S : Finset Tr) : (bigSep S fun t => rPts c (W c t) fullShare f : sProp 𝕄) ⊢ bigSep S fun t => iprop(∃ f, rPts c (W c t) fullShare f) :=
    bigSep_mono fun t _ => by
      show (rPts c (W c t) fullShare f : sProp 𝕄) ⊢ iprop(∃ f, rPts c (W c t) fullShare f)
      iintro H; iexists f; iexact H
  iintro ⟨H0, H1, H2⟩
  isplitl [H0]; · iapply (hm _); iexact H0
  isplitl [H1]; · iapply (hm _); iexact H1
  iapply (hm _); iexact H2

/-! ## The handshake -/

/-- The runtime's barrier semaphore, as the kernel takes it. -/
abbrev barA : Sems sig S_ := SemArray.scalar (sig.barrier 0 rfl)

omit [FloatOps F] in
/-- The barrier may be waited on while every transfer is still owed: its level is below all of theirs. -/
theorem mayWait_bar : (levAts L lv : sProp 𝕄) ⊢ MayWait (c : Thread nD τ) (.reg barS) () (owed c Finset.univ) :=
  mayWait_owed c (.reg barS) Finset.univ fun s _ => by
    rw [show lv ((c : Thread nD τ), .reg barS) () = 1 from lv_bar c]; exact lev_pos s

/-- The kernel's first part: its device and the barrier's semaphore, and the first signal. -/
theorem part1 :
    Ready m ρ K c ⊢ wp frame (wpE (defs₀ (F := F)) 𝒱₀ (c : Thread nD τ) none) Set.univ (k0_part1 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8)
      (fun r => iprop(⌜r.1 = c ∧ r.2.2.2.2.2.2.2.2.2.2.2.1 = barA⌝ ∗ Told m ρ K c)) := by
  rw [k0_part1_eq_skeleton]; unfold k0_part1_skel
  simp only [semSignalWord, Prog.lift, Prog.bind_op, Prog.bind_ret, Prog.pure_eq_ret, wp_deviceId]
  simp only [dev1_eq c]
  unfold Ready
  iintro ⟨#Hrec, #Hlev, ⟨%Wt, HO⟩, Ht0, Ht1, Ht2, Hp0, Hp1, Hp2, Hat, Hc, Hrest⟩
  ihave #HI0 := (inv_bar m ρ K (flip 0 c)) $$ Hrec
  ihave #Hr0 := (reached_bar m ρ K (flip 0 c)) $$ Hrec
  unfold O₀
  iapply (Rounds.wp_signal 𝒱₀ EM (meshRd m ρ) (c : Thread nD τ) none (dst := (flip 0 c : Thread nD τ)) (κ := K (flip 0 c, none))
      (d := 0) (by rw [duties_bar]; exact Finset.mem_univ _) ((amount_bar m ρ (flip 0 c) 0).trans (by decide)) ()
      (owed c Finset.univ + tallyAt (barCell (flip 2 c)) () 1 + tallyAt (barCell (flip 1 c)) () 1) rfl)
    $$ [HO Ht0 Hp0]
  · isplitr; · iexact HI0
    isplitl [HO]; · iexact HO
    isplitl [Ht0]; · iexact Ht0
    isplitl [Hp0]; · rw [payload_bar]; iexact Hp0
    iexact Hr0
  iintro HO
  iapply (part_end (A := Told m ρ K c) c ⟨rfl, rfl⟩)
  unfold Told
  isplitr; · iexact Hrec
  isplitr; · iexact Hlev
  isplitl [HO]; · iexists Wt; iexact HO
  isplitl [Ht1]; · iexact Ht1
  isplitl [Ht2]; · iexact Ht2
  isplitl [Hp1]; · iexact Hp1
  isplitl [Hp2]; · iexact Hp2
  isplitl [Hat]; · iexact Hat
  isplitl [Hc]; · iexact Hc
  iexact Hrest

omit [FloatOps F] in
/-- A transfer's tokens and the rows it fills. -/
theorem goes : (iprop(bigSep Finset.univ (fun t => iprop(dutyTok EM (sCell c t) 0 0 ∗ dutyTok EM (rCell (peer t c) t) 0 0)) ∗ bigSep Finset.univ (dstPts (F := F) c)) : sProp 𝕄)
    = bigSep Finset.univ (toGo (F := F) c) := by
  rw [← bigSep_sep']
  refine bigSep_congr fun t _ => ?_
  unfold toGo
  exact equiv_iff.mp ⟨BI.sep_assoc, BI.sep_assoc'⟩

/-- The second: the other two signals, and the wait. -/
theorem part2 (v2 v5 v8 v10 v11 v13 v32 : BitVec 32) (v24 : Sems sig S_) (hv : v24 = barA) :
    Told m ρ K c ⊢ wp frame (wpE (defs₀ (F := F)) 𝒱₀ (c : Thread nD τ) none) Set.univ (k0_part2 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 c v2 v5 v8 v10 v11 v13 v24 v32)
      (fun r => iprop(⌜True⌝ ∗ Inv m ρ K c 0)) := by
  subst hv
  rw [k0_part2_eq_skeleton]; unfold k0_part2_skel
  simp only [semSignalWord, semWaitWord, Prog.lift, Prog.bind_op, Prog.bind_ret, Prog.pure_eq_ret]
  simp only [dev2_eq c, dev3_eq c]
  unfold Told
  iintro ⟨#Hrec, #Hlev, ⟨%Wt, HO⟩, Ht1, Ht2, Hp1, Hp2, Hat, Hc, Hrest⟩
  ihave #HI1 := (inv_bar m ρ K (flip 1 c)) $$ Hrec
  ihave #Hr1 := (reached_bar m ρ K (flip 1 c)) $$ Hrec
  ihave #HI2 := (inv_bar m ρ K (flip 2 c)) $$ Hrec
  ihave #Hr2 := (reached_bar m ρ K (flip 2 c)) $$ Hrec
  ihave #HI := (inv_bar m ρ K c) $$ Hrec
  iapply (Rounds.wp_signal 𝒱₀ EM (meshRd m ρ) (c : Thread nD τ) none (dst := (flip 1 c : Thread nD τ)) (κ := K (flip 1 c, none))
      (d := 1) (by rw [duties_bar]; exact Finset.mem_univ _) ((amount_bar m ρ (flip 1 c) 1).trans (by decide)) ()
      (owed c Finset.univ + tallyAt (barCell (flip 2 c)) () 1) rfl)
    $$ [HO Ht1 Hp1]
  · isplitr; · iexact HI1
    isplitl [HO]; · iexact HO
    isplitl [Ht1]; · iexact Ht1
    isplitl [Hp1]; · rw [payload_bar]; iexact Hp1
    iexact Hr1
  iintro HO
  iapply (Rounds.wp_signal 𝒱₀ EM (meshRd m ρ) (c : Thread nD τ) none (dst := (flip 2 c : Thread nD τ)) (κ := K (flip 2 c, none))
      (d := 2) (by rw [duties_bar]; exact Finset.mem_univ _) ((amount_bar m ρ (flip 2 c) 2).trans (by decide)) ()
      (owed c Finset.univ) rfl)
    $$ [HO Ht2 Hp2]
  · isplitr; · iexact HI2
    isplitl [HO]; · iexact HO
    isplitl [Ht2]; · iexact Ht2
    isplitl [Hp2]; · rw [payload_bar]; iexact Hp2
    iexact Hr2
  iintro HO
  iapply (Rounds.wp_wait_rest_token 𝒱₀ EM (meshRd m ρ) (c : Thread nD τ) none (κ := K (c, none))
      (wpE_semWait_eq 𝒱₀ (c : Thread nD τ) none Set.univ) (Set.mem_univ _) () (O := owed c Finset.univ) (W := Wt) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hpay⟩
  ihave Hd := (Entails.of_eq (rest_bar m ρ c)) $$ Hpay
  imod (Rounds.cell_close EM (meshRd m ρ) (Set.mem_univ (K (c, none))) (fun h => h) (R := 0 + 1) (duties_later m ρ (barCell c))) $$ [Hat] with Hz
  · isplitr; · iexact HI
    iexact Hat
  iapply (part_end (A := Inv m ρ K c 0) c trivial)
  unfold Inv Rest
  icases Hrest with ⟨Htk, Hat, Hcome, Hsrc, Hxl, Hxr, ⟨%g, Hout⟩⟩
  rw [toSend_zero, flying_zero, undrained_zero, drained_zero, awaited_zero, landed_zero, sources_zero]
  isplitr; · iexact Hrec
  isplitr; · iexact Hlev
  isplitl [HO]; · unfold owing; rw [toSend_zero]; iexists _; iexact HO
  isplitl [Htk Hd]
  · unfold tokens
    iapply (Entails.of_eq (goes c)) $$ [Htk Hd]
    isplitl [Htk]; · iexact Htk
    iexact Hd
  isplitr; · rw [bigSep_empty]; iempintro
  isplitl [Hat]; · iexact Hat
  isplitr; · rw [bigSep_empty]; iempintro
  isplitl [Hsrc]; · iexact Hsrc
  isplitl [Hcome]; · iexact Hcome
  isplitr; · rw [bigSep_empty]; iempintro
  isplitr
  · unfold rPts; rw [Finset.biUnion_empty, pointsTo_empty]; iempintro
  isplitl [Hxl]; · iexact Hxl
  isplitl [Hz Hxr]
  · unfold aside
    isplitl [Hz]; · iexact Hz
    iexact Hxr
  unfold outSoFar
  iexists g
  isplitr
  · ipureintro; intro t ht; rw [added_zero] at ht; exact absurd ht (Finset.notMem_empty t)
  iexact Hout

/-! ## The whole run -/

/-- A part of a program, before whatever follows it. -/
theorem part_next {α : Type} {A B : sProp 𝕄} {φ : α → Prop} {p : Prog (TpuEff nD τ sig (Elt F) Λ₀ .tc) α} {Q : α → sProp 𝕄}
    (hp : A ⊢ wp frame (wpE (defs₀ (F := F)) 𝒱₀ (c : Thread nD τ) none) Set.univ p (fun r => iprop(⌜φ r⌝ ∗ B)))
    (hk : ∀ r, φ r → B ⊢ Q r) : A ⊢ wp frame (wpE (defs₀ (F := F)) 𝒱₀ (c : Thread nD τ) none) Set.univ p Q := by
  refine hp.trans (wp_mono _ _ _ fun r => ?_)
  iintro ⟨%h, HB⟩
  iapply (hk r h); iexact HB

set_option maxRecDepth 8192 in
/-- All the parts, and two of the last three waits. -/
theorem part40 :
    Ready m ρ K c ⊢ wp frame (wpE (defs₀ (F := F)) 𝒱₀ (c : Thread nD τ) none) Set.univ (k0_part40 (F := F) xM (Memref.isWhole_whole _) oM (Memref.isWhole_whole _) rM (Memref.isWhole_whole _) cc0_scratch1 cc0_scratch2 cc0_scratch3 cc0_scratch4 cc0_scratch5 cc0_scratch6 cc0_scratch7 cc0_scratch8)
      (fun r => iprop(⌜r = c⌝ ∗ Inv m ρ K c 118)) := by
  rw [k0_part40_eq_skeleton]; unfold k0_part40_skel
  rw [wp_bind]; refine part_next c (part1 m ρ K c) ?_
  rintro ⟨d0, v2, v5, v8, v9, v10, v11, v13, v16, v19, v23, v24, v32⟩ ⟨hd, hb⟩
  dsimp only at hd hb ⊢
  subst hd hb
  rw [wp_bind]; refine part_next d0 (part2 m ρ K d0 _ _ _ _ _ _ _ _ rfl) ?_
  intro _ _; beta_reduce
  rw [wp_bind]; refine part_next d0 (part3 m ρ K d0 _ _ _ _ _ _) ?_
  intro _ _; beta_reduce
  rw [wp_bind]; refine part_next d0 (part4 m ρ K d0 _ _ _ _) ?_
  intro _ _; beta_reduce
  rw [wp_bind]; refine part_next d0 (part5 m ρ K d0 _ _ _ _) ?_
  intro _ _; beta_reduce
  rw [wp_bind]; refine part_next d0 (part6 m ρ K d0 _ _ _ _ _) ?_
  intro _ _; beta_reduce
  rw [wp_bind]; refine part_next d0 (part7 m ρ K d0 _ _ _) ?_
  intro _ _; beta_reduce
  rw [wp_bind]; refine part_next d0 (part8 m ρ K d0 _ _ _ _ _) ?_
  intro _ _; beta_reduce
  rw [wp_bind]; refine part_next d0 (part9 m ρ K d0 _ _ _ _ _ _) ?_
  rintro ⟨_, v⟩ hv
  dsimp only at hv ⊢
  subst hv
  rw [wp_bind]; refine part_next d0 (part10 m ρ K d0 _ _ _ _ _ _ _ _ rfl) ?_
  rintro ⟨_, _⟩ -
  dsimp only
  rw [wp_bind]; refine part_next d0 (part11 m ρ K d0 _ _ _ _ _ _ _ _ _) ?_
  rintro ⟨_, _⟩ -
  dsimp only
  rw [wp_bind]; refine part_next d0 (part12 m ρ K d0 _ _ _ _ _ _ _ _) ?_
  rintro ⟨_, _⟩ -
  dsimp only
  rw [wp_bind]; refine part_next d0 (part13 m ρ K d0 _ _ _ _ _ _ _ _) ?_
  rintro ⟨_, _⟩ -
  dsimp only
  rw [wp_bind]; refine part_next d0 (part14 m ρ K d0 _ _ _ _ _ _ _ _) ?_
  intro _ _; beta_reduce
  rw [wp_bind]; refine part_next d0 (part15 m ρ K d0 _ _ _ _ _ _ _) ?_
  intro _ _; beta_reduce
  rw [wp_bind]; refine part_next d0 (part16 m ρ K d0 _ _ _ _ _ _) ?_
  intro _ _; beta_reduce
  rw [wp_bind]; refine part_next d0 (part17 m ρ K d0 _ _ _ _ _ _) ?_
  rintro ⟨_, v⟩ hv
  dsimp only at hv ⊢
  subst hv
  rw [wp_bind]; refine part_next d0 (part18 m ρ K d0 _ _ _ _ _ _ _ _ _ rfl) ?_
  intro _ _; beta_reduce
  rw [wp_bind]; refine part_next d0 (part19 m ρ K d0 _ _ _ _ _ _) ?_
  intro _ _; beta_reduce
  rw [wp_bind]; refine part_next d0 (part20 m ρ K d0 _ _ _ _ _) ?_
  intro _ _; beta_reduce
  rw [wp_bind]; refine part_next d0 (part21 m ρ K d0 _ _ _ _ _ _ _) ?_
  rintro ⟨_, _⟩ -
  dsimp only
  rw [wp_bind]; refine part_next d0 (part22 m ρ K d0 _ _ _ _ _ _ _ _) ?_
  intro _ _; beta_reduce
  rw [wp_bind]; refine part_next d0 (part23 m ρ K d0 _ _ _ _ _ _ _ _) ?_
  intro _ _; beta_reduce
  rw [wp_bind]; refine part_next d0 (part24 m ρ K d0 _ _ _ _ _ _ _ _) ?_
  rintro ⟨_, _⟩ -
  dsimp only
  rw [wp_bind]; refine part_next d0 (part25 m ρ K d0 _ _ _ _ _ _ _ _) ?_
  intro _ _; beta_reduce
  rw [wp_bind]; refine part_next d0 (part26 m ρ K d0 _ _ _ _ _ _) ?_
  intro _ _; beta_reduce
  rw [wp_bind]; refine part_next d0 (part27 m ρ K d0 _ _ _ _ _ _) ?_
  intro _ _; beta_reduce
  rw [wp_bind]; refine part_next d0 (part28 m ρ K d0 _ _ _ _ _ _) ?_
  rintro ⟨_, v⟩ hv
  dsimp only at hv ⊢
  subst hv
  rw [wp_bind]; refine part_next d0 (part29 m ρ K d0 _ _ _ _ _ _ _ _ rfl) ?_
  intro r hr; beta_reduce
  subst hr
  rw [wp_bind]; refine part_next d0 (part30 m ρ K d0 _ _ _ _ _ _ _ _ rfl) ?_
  intro _ _; beta_reduce
  rw [wp_bind]; refine part_next d0 (part31 m ρ K d0 _ _ _ _ _ _ _) ?_
  intro _ _; beta_reduce
  rw [wp_bind]; refine part_next d0 (part32 m ρ K d0 _ _ _ _ _ _) ?_
  intro _ _; beta_reduce
  rw [wp_bind]; refine part_next d0 (part33 m ρ K d0 _ _ _ _ _ _) ?_
  intro _ _; beta_reduce
  rw [wp_bind]; refine part_next d0 (part34 m ρ K d0 _ _ _ _ _) ?_
  intro _ _; beta_reduce
  rw [wp_bind]; refine part_next d0 (part35 m ρ K d0 _) ?_
  intro _ _; beta_reduce
  rw [wp_bind]; refine part_next d0 (part36 m ρ K d0) ?_
  intro _ _; beta_reduce
  rw [wp_bind]; refine part_next d0 (part37 m ρ K d0) ?_
  intro _ _; beta_reduce
  rw [wp_bind]; refine part_next d0 (part38 m ρ K d0) ?_
  intro _ _; beta_reduce
  rw [wp_bind]; refine part_next d0 (part39 m ρ K d0) ?_
  intro _ _; beta_reduce
  simp only [Prog.lift, Prog.bind_op, Prog.bind_ret, Prog.pure_eq_ret]
  refine step_drain m ρ K d0 (t := 27) rfl rfl rfl ?_
  refine step_drain m ρ K d0 (t := 29) rfl rfl rfl ?_
  exact part_end d0 rfl

set_option maxRecDepth 8192 in
/-- The kernel on device `c`. -/
theorem body_run :
    Ready m ρ K c ⊢ wp frame (wpE (defs₀ (F := F)) 𝒱₀ (c : Thread nD τ) none) Set.univ (cc0_body (F := F) xM (Memref.isWhole_whole _) oM (Memref.isWhole_whole _) rM (Memref.isWhole_whole _) cc0_scratch1 cc0_scratch2 cc0_scratch3 cc0_scratch4 cc0_scratch5 cc0_scratch6 cc0_scratch7 cc0_scratch8)
      (fun _ => iprop(⌜True⌝ ∗ Inv m ρ K c 119)) := by
  rw [cc0_body_eq_skeleton]; unfold cc0_body_skel
  rw [wp_bind]; refine part_next c (part40 m ρ K c) ?_
  intro d0 hd; beta_reduce; subst hd
  simp only [Prog.lift, Prog.bind_op, Prog.bind_ret, Prog.pure_eq_ret]
  refine step_drain m ρ K d0 (t := 30) rfl rfl rfl ?_
  exact part_end d0 trivial

end Cert.MeshSum

end
-- ==== Proof.Mesh.lean ====
/-
# The body of the call

The kernel on a device, from what the launch gives it to what it leaves: its landing buffer, its semaphores at zero, its block of `x`
as it was, and the sum in its result.
-/
module

public import proofs.«01_k».proof.Proof.Handshake
public import proofs.«01_k».proof.Proof.Gen.KernelIdeal.Launch

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What the launch gives, what the body leaves -/

/-- What the global step leaves device `c`, at some names of the invariants. -/
def Dealt (K : Dev nD × Option Own → ℕ) (c : Dev nD) : sProp 𝕄 :=
  iprop(records m ρ K
    ∗ (dutyTok EM (barCell (flip 0 c)) 0 0 ∗ dutyTok EM (barCell (flip 1 c)) 0 1 ∗ dutyTok EM (barCell (flip 2 c)) 0 2
      ∗ bigSep Finset.univ (tokens (F := F) c))
    ∗ atPos EM (barCell c) 0 ∅ 0
    ∗ bigSep Finset.univ (fun t => atPos EM (sCell c t) 0 ∅ 0)
    ∗ bigSep Finset.univ (fun t => atPos EM (rCell c t) 0 ∅ 0))

/-- That, its credits and the levels. -/
def start (c : Dev nD) : sProp 𝕄 :=
  iprop((∃ K, Dealt m ρ K c) ∗ cred (tallyAt (barCell c) () 3)
    ∗ bigSep Finset.univ (fun t => cred (tallyAt (rCell c t) () (N t))) ∗ levAts L lv)

/-- Before the body: that and the landing buffer. -/
def Φ₀ (c : Dev nD) : sProp 𝕄 := iprop(start m ρ c ∗ ∃ f : Arr F, rPts c Finset.univ fullShare f)
/-- After it: the landing buffer and every semaphore at zero. -/
def Φ₁ (c : Dev nD) : sProp 𝕄 :=
  iprop((∃ f : Arr F, rPts c Finset.univ fullShare f) ∗ semVal (barCell c) 0
    ∗ bigSep Finset.univ (fun t => semVal (sCell c t) 0) ∗ bigSep Finset.univ (fun t => semVal (rCell c t) 0))

/-- The call's data: the arrays as they are found, what the body leaves in each staging buffer, the state and the debts before and after. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ c
  q _ := fullShare
  owed t := match t with
    | ⟨0, _⟩ => O₀ c
    | ⟨_ + 1, _⟩ => 0

variable (K : Dev nD × Option Own → ℕ) (c : Dev nD)

/-- The state before the handshake, from its parts. -/
theorem ready_intro (Wt : Waits sig Unit) :
    iprop(Dealt m ρ K c ∗ cred (tallyAt (barCell c) () 3) ∗ bigSep Finset.univ (fun t => cred (tallyAt (rCell c t) () (N t)))
        ∗ levAts L lv ∗ (∃ f : Arr F, rPts c Finset.univ fullShare f) ∗ owes (c : Thread nD τ) (O₀ c) Wt
        ∗ xPts c Finset.univ fullShare (xstg m ρ c) ∗ ∃ g : Arr F, oPts c Finset.univ fullShare g)
      ⊢ Ready m ρ K c := by
  unfold Dealt Ready Rest
  iintro ⟨⟨Hrec, ⟨Ht0, Ht1, Ht2, Htk⟩, Hab, Has, Har⟩, Hcb, Hcr, Hlev, ⟨%f, Hr⟩, HO, Hx, Hout⟩
  ihave Hp := (cut_up c f) $$ Hr
  icases Hp with ⟨Hp0, Hp1, Hp2⟩
  ihave Hx' := (x_split m ρ c).1 $$ Hx
  icases Hx' with ⟨Hxl, Hxs, Hxr⟩
  isplitl [Hrec]; · iexact Hrec
  isplitl [Hlev]; · iexact Hlev
  isplitl [HO]; · iexists Wt; iexact HO
  isplitl [Ht0]; · iexact Ht0
  isplitl [Ht1]; · iexact Ht1
  isplitl [Ht2]; · iexact Ht2
  isplitl [Hp0]; · iexact Hp0
  isplitl [Hp1]; · iexact Hp1
  isplitl [Hp2]; · iexact Hp2
  isplitl [Hab]; · iexact Hab
  isplitl [Hcb]; · iexact Hcb
  isplitl [Htk]; · iexact Htk
  isplitl [Has]; · iexact Has
  isplitl [Hcr Har]
  · iapply (Entails.of_eq (bigSep_sep' Finset.univ (fun t : Tr => (cred (tallyAt (rCell c t) () (N t)) : sProp 𝕄)) (fun t => atPos EM (rCell c t) 0 ∅ 0)).symm)
    isplitl [Hcr]; · iexact Hcr
    iexact Har
  isplitl [Hxs]; · iexact Hxs
  isplitl [Hxl]; · iexact Hxl
  isplitl [Hxr]; · iexact Hxr
  iexact Hout

/-- Every row is among those some addition wrote. -/
theorem all_added (y : S4096x1024.Idx) : ∃ t ∈ added 119, y ∈ addBand c t := by
  obtain ⟨t, ht⟩ := W_cover c y
  by_cases h : t.val < 25
  · exact ⟨t, by rw [added_end]; exact Finset.mem_filter.mpr ⟨Finset.mem_univ _, by omega⟩, by unfold addBand; rw [if_neg (by omega)]; exact ht⟩
  · refine ⟨25, by rw [added_end]; decide, ?_⟩
    unfold addBand; rw [if_pos (by rfl)]
    have hb : ∀ (c : Dev nD) (t : Tr), 25 ≤ t.val → wlo c 26 ≤ wlo c t ∧ wlo c t + wsz t ≤ wlo c 26 + 560 := by decide +kernel
    exact band_sub (hb c t (by omega)) ht

/-- What is left at the end. -/
theorem done_elim :
    Inv m ρ K c 119 ⊢ iprop(Φ₁ c ∗ (∃ Wt, owes (c : Thread nD τ) 0 Wt) ∗ xPts c Finset.univ fullShare (xstg m ρ c)
      ∗ oPts c Finset.univ fullShare (outAt m ρ c)) := by
  have hs : (Finset.univ : Finset Tr) = ownTr ∪ Finset.univ.filter (fun t : Tr => 9 ≤ t.val) := by decide +kernel
  have hd : Disjoint ownTr (Finset.univ.filter fun t : Tr => 9 ≤ t.val) := by decide +kernel
  have hsrc : bigSep Finset.univ (srcPts m ρ c) = iprop(bigSep ownTr (srcPts m ρ c) ∗ bigSep (Finset.univ.filter fun t : Tr => 9 ≤ t.val) (srcPts m ρ c)) := by
    conv_lhs => rw [hs]
    exact bigSep_two hd _
  unfold Inv owing outSoFar aside Φ₁
  rw [toSend_end, flying_end, undrained_end, drained_end, sources_end, awaited_end, landed_end, hsrc]
  have hcome : bigSep Finset.univ (come m ρ c)
      = iprop(bigSep Finset.univ (fun t => semVal (rCell c t) 0) ∗ bigSep Finset.univ (fun p => rPts c (restOf c p) fullShare.right (rem m ρ c))) :=
    bigSep_sep' Finset.univ (fun t : Tr => (semVal (rCell c t) 0 : sProp 𝕄)) (fun p => rPts c (restOf c p) fullShare.right (rem m ρ c))
  rw [hcome]
  iintro ⟨-, -, ⟨%Wt, HO⟩, -, -, -, Hsv, ⟨Hown, Hpass⟩, -, ⟨Hrv, Hrr⟩, Hrl, Hxl, ⟨Hb, Hxr⟩, ⟨%g, %hg, Hout⟩⟩
  have hgo : g = outAt m ρ c := funext fun y => by
    obtain ⟨t, ht, hy⟩ := all_added c y
    exact hg t ht y hy
  subst hgo
  isplitl [Hsv Hpass Hrv Hrr Hrl Hb]
  · isplitl [Hpass Hrr Hrl]
    · iexists (rem m ρ c)
      iapply (r_whole m ρ c)
      isplitl [Hrl]; · iexact Hrl
      isplitl [Hpass]; · iexact Hpass
      iexact Hrr
    isplitl [Hb]; · iexact Hb
    isplitl [Hsv]; · iexact Hsv
    iexact Hrv
  isplitl [HO]
  · iexists Wt; unfold owed; rw [Finset.sum_empty]; iexact HO
  isplitl [Hown Hxl Hxr]
  · iapply (x_split m ρ c).2
    isplitl [Hxl]; · iexact Hxl
    isplitl [Hown]; · iexact Hown
    iexact Hxr
  iexact Hout

/-! ## The body -/

omit [FloatOps F] in
/-- Owning a whole buffer is owning every element of it. -/
theorem owns_whole_eq (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-- A staging buffer holds given contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- What the pipeline gives the body. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 2) t0_0 d))
    ∗ (∃ d, stg c cc0_stg1_0 ((dats m ρ 0 c).before (1 : Fin 2) t0_0 d)))
/-- What it takes back. -/
def bodyPost (c : Dev nD) : sProp 𝕄 :=
  iprop(Φ₁ c ∗ (dats m ρ 0 c).owesAt () t0_0.succ ∗ stg c cc0_stg0_0 (xstg m ρ c) ∗ stg c cc0_stg1_0 (outAt m ρ c))

/-- The block of `x` is fetched before the body runs. -/
theorem fetch_0 (t : Fin cfg0.N) : (cfg0.win (0 : Fin 2)).fetch t = true := by rw [fin_N0 t]; rfl

/-- What the run leaves, as the pipeline takes it. -/
theorem after_run : iprop(⌜True⌝ ∗ Inv m ρ K c 119) ⊢ bodyPost m ρ c := by
  iintro ⟨-, HI⟩
  ihave H := (done_elim m ρ K c) $$ HI
  icases H with ⟨HΦ, ⟨%Wt', HO⟩, Hx, Hout⟩
  unfold bodyPost Dat.owesAt Pipeline.owesWithin
  rw [show (dats m ρ 0 c).owed t0_0.succ = 0 from rfl]
  isplitl [HΦ]; · iexact HΦ
  isplitl [HO]
  · iexists Wt'
    isplitr; · ipureintro; exact fun _ _ => Or.inl trivial
    iexact HO
  isplitl [Hx]
  · iexists _; isplitr; · (ipureintro; rfl)
    unfold xPts; iexact Hx
  iexists _; isplitr; · (ipureintro; rfl)
  unfold oPts; iexact Hout

/-- The call's body on device `c`, from what the pipeline gives it to what it takes back. -/
theorem body_sound : bodyPre m ρ c ⊢ wp frame (wpE (defs₀ (F := F)) 𝒱₀ (c : Thread nD τ) none) Set.univ (cc0_body (F := F) xM (Memref.isWhole_whole _) oM (Memref.isWhole_whole _) rM (Memref.isWhole_whole _) cc0_scratch1 cc0_scratch2 cc0_scratch3 cc0_scratch4 cc0_scratch5 cc0_scratch6 cc0_scratch7 cc0_scratch8) (fun _ => bodyPost m ρ c) := by
  unfold bodyPre Φ₀ start
  iintro ⟨⟨⟨⟨%K, HD⟩, Hcb, Hcr, Hlev⟩, Hr⟩, Ho, ⟨%d0, %g0, %hg0, Hx⟩, ⟨%d1, %g1, %hg1, Hout⟩⟩
  have hx : g0 = xstg m ρ c := by rw [hg0]; unfold Dat.before; rw [if_pos (fetch_0 t0_0)]; rfl
  subst hx
  unfold Dat.owesAt Pipeline.owesWithin
  icases Ho with ⟨%Wt, %hW, HO⟩
  rw [show (dats m ρ 0 c).owed t0_0.castSucc = O₀ c from rfl]
  iapply (((ready_intro m ρ K c Wt).trans (body_run m ρ K c)).trans (wp_mono _ _ _ fun _ => after_run m ρ K c)) $$ [HD Hcb Hcr Hlev Hr HO Hx Hout]
  · isplitl [HD]; · iexact HD
    isplitl [Hcb]; · iexact Hcb
    isplitl [Hcr]; · iexact Hcr
    isplitl [Hlev]; · iexact Hlev
    isplitl [Hr]; · iexact Hr
    isplitl [HO]; · iexact HO
    isplitl [Hx]; · unfold xPts; iexact Hx
    iexists g1; unfold oPts; iexact Hout

set_option maxRecDepth 8192 in
/-- The obligation the launch theorem asks of the body. -/
theorem body_obligation : BodyObligation (dats (F := F) m ρ 0 c) (defs₀ (F := F)) 𝒱₀ () Set.univ := fun t => by
  rw [fin_N0 t]
  rw [show ∀ Φ : Fin cfg0.W → sProp 𝕄, bigSep Finset.univ Φ = iprop(Φ (0 : Fin 2) ∗ Φ (1 : Fin 2)) from fun Φ => bigSep_W0 Φ,
    show ∀ Φ : Fin cfg0.W → sProp 𝕄, bigSep Finset.univ Φ = iprop(Φ (0 : Fin 2) ∗ Φ (1 : Fin 2)) from fun Φ => bigSep_W0 Φ]
  simp only [owns_whole_eq]
  have hb : defs₀ (F := F) .tc cfg0.body (cfg0.bodyArgs t0_0 (cfg0.slots t0_0)) = cc0_body (F := F) xM (Memref.isWhole_whole _) oM (Memref.isWhole_whole _) rM (Memref.isWhole_whole _) cc0_scratch1 cc0_scratch2 cc0_scratch3 cc0_scratch4 cc0_scratch5 cc0_scratch6 cc0_scratch7 cc0_scratch8 := rfl
  have h := body_sound m ρ c
  unfold bodyPre bodyPost stg at h
  have e0 : (dats m ρ 0 c).Φ t0_0.castSucc = Φ₀ m ρ c := rfl
  have e1 : (dats m ρ 0 c).Φ t0_0.succ = Φ₁ c := rfl
  have e2 : (dats m ρ 0 c).after 0 t0_0 = xstg m ρ c := rfl
  have e3 : (dats m ρ 0 c).after 1 t0_0 = outAt m ρ c := rfl
  rw [e0, e1, e2, e3, hb]
  convert h using 2

end Cert.MeshSum

end
-- ==== Proof.Run.lean ====
/-
# The launch, and the run

The eight devices' semaphores are put under the schedule, each device is dealt the tokens of what it will pay its neighbours, and the
launch theorem turns the body's obligation into a statement of the whole run.
-/
module

public import proofs.«01_k».proof.Proof.Mesh
public import Idealize.ShloMosaic.Lib.Pipeline.CollectiveSegs

@[expose] public section

noncomputable section

namespace Cert.MeshSum

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The semaphores -/

/-- The kernel's own semaphores are distinct and none is a staging buffer's. -/
theorem ownSemFacts : Pipeline.OwnSemFacts cfg0.spec osem := by decide +kernel

/-- Every window is owned whole. -/
theorem share_eq (c : Dev nD) (w : Fin cfg0.W) : (dats m ρ 0 c).share w = fullShare := by unfold Dat.share; split <;> rfl

/-- The semaphores of a device are different. -/
theorem csem_inj : ∀ k k' : Option Own, csem k = csem k' → k = k' := by decide +kernel
/-- The semaphores of the mesh are different. -/
theorem kcell_inj : Function.Injective kcell := by
  rintro ⟨c, k⟩ ⟨c', k'⟩ h
  have hc : c = c' := congrArg (fun g : GSem nD τ sig => g.1.1) h
  rw [hc, csem_inj k k' (congrArg Prod.snd h)]
/-- All of them. -/
def meshCells : Finset (GSem nD τ sig) := Finset.univ.map ⟨kcell, kcell_inj⟩

/-- The tokens of the rounds' duties: three of each barrier, one of each other semaphore. -/
abbrev tokOf (x : Dev nD × (Fin 3 ⊕ Own)) : GSem nD τ sig × ℕ × Fin 3 := match x.2 with
  | .inl l => (barCell x.1, 0, l)
  | .inr k => (kcell (x.1, some k), 0, 0)
/-- Different payments have different tokens. -/
theorem tokOf_inj : Function.Injective tokOf := by
  rintro ⟨c, a⟩ ⟨c', a'⟩ h
  have hc : c = c' := by
    have := congrArg (fun x : GSem nD τ sig × ℕ × Fin 3 => x.1.1.1) h
    cases a <;> cases a' <;> exact this
  have h1 := congrArg (fun x : GSem nD τ sig × ℕ × Fin 3 => x.1.2) h
  have h2 := congrArg (fun x : GSem nD τ sig × ℕ × Fin 3 => x.2.2) h
  subst hc
  cases a with
  | inl l => cases a' with
    | inl l' => exact congrArg (fun l => (c, Sum.inl l)) h2
    | inr k' => exact absurd (csem_inj none (some k') h1) (by simp)
  | inr k => cases a' with
    | inl l' => exact absurd (csem_inj (some k) none h1) (by simp)
    | inr k' => exact congrArg (fun k => (c, Sum.inr k)) (Option.some.inj (csem_inj (some k) (some k') h1))
/-- All the tokens. -/
def meshToks : Finset (GSem nD τ sig × ℕ × Fin 3) := Finset.univ.map ⟨tokOf, tokOf_inj⟩

/-- The launch's ghost state: the staging pipeline's and the schedule's. -/
def u₀ : UU := (initOf (Pipeline.cells cfgs cellOf_inj) (Pipeline.launchToks cfgs cellOf_inj), initOf meshCells meshToks)

omit [FloatOps F] in
/-- Of all a device's semaphores: of the transfers' senders' and of their receivers'. -/
theorem over_own (Φ : Own → sProp 𝕄) :
    bigSep Finset.univ Φ = iprop(bigSep Finset.univ (fun t => Φ (false, t)) ∗ bigSep Finset.univ fun t => Φ (true, t)) := by
  rw [bigSep_univ_prod]
  exact bigSep_univ_eq_bigSepL [false, true] (by decide) (by decide) _
omit [FloatOps F] in
/-- And of the barrier besides. -/
theorem over_cells (Φ : Option Own → sProp 𝕄) :
    bigSep Finset.univ Φ = iprop(Φ none ∗ bigSep Finset.univ (fun t => Φ (some (false, t))) ∗ bigSep Finset.univ fun t => Φ (some (true, t))) := by
  have h : (Finset.univ : Finset (Option Own)) = insert none (Finset.univ.map Function.Embedding.some) := by decide +kernel
  rw [h, bigSep_insert (by simp), bigSep_map, over_own]
  rfl

/-- The tokens of the duties of device `c`'s own semaphores. -/
def toks (c : Dev nD) : sProp 𝕄 :=
  iprop((dutyTok EM (barCell c) 0 0 ∗ dutyTok EM (barCell c) 0 1 ∗ dutyTok EM (barCell c) 0 2)
    ∗ bigSep Finset.univ (fun t => dutyTok EM (sCell c t) 0 0) ∗ bigSep Finset.univ fun t => dutyTok EM (rCell c t) 0 0)

/-- What the launch's ghost state gives device `c`. -/
def G (c : Dev nD) : sProp 𝕄 :=
  iprop((bigSep Finset.univ fun k => roundState EM (meshRd m ρ) (kcell (c, k)) 0)
    ∗ (bigSep Finset.univ fun k => iprop(atPos EM (kcell (c, k)) 0 ∅ 0 ∗ reached EM (kcell (c, k)) 0)) ∗ toks c)
/-- What the step all devices take together makes of it. -/
def G' (c : Dev nD) : sProp 𝕄 := iprop(∃ K, Dealt m ρ K c)

omit [FloatOps F] in
/-- The schedule's start gives every device its part. -/
theorem fund_mesh : BI.own (EM (initOf meshCells meshToks)) ⊢ (|==> bigSep Finset.univ (G m ρ) : sProp 𝕄) := by
  have hX (Φ : GSem nD τ sig → sProp 𝕄) : bigSep meshCells Φ = bigSep Finset.univ fun c : Dev nD => bigSep Finset.univ fun k : Option Own => Φ (kcell (c, k)) := by
    unfold meshCells; rw [bigSep_map, bigSep_univ_prod]; rfl
  have hT : bigSep meshToks (fun x => (dutyTok EM x.1 x.2.1 x.2.2 : sProp 𝕄)) = bigSep Finset.univ fun c : Dev nD => toks c := by
    unfold meshToks; rw [bigSep_map, bigSep_univ_prod]
    refine bigSep_congr fun c _ => ?_
    unfold toks
    rw [bigSep_univ_sum, bigSep_univ_eq_bigSepL [(0 : Fin 3), 1, 2] (by decide) (by decide), over_own]
    rfl
  iintro HX
  imod (Rounds.fund EM (meshRd m ρ) meshCells meshToks) $$ HX with ⟨Hst, Hr, Hat, Htok⟩
  imodintro
  ihave Hst := (Entails.of_eq (hX fun g => roundState EM (meshRd m ρ) g 0)) $$ Hst
  ihave Hat := (Entails.of_eq (hX fun g => atPos EM g 0 ∅ 0)) $$ Hat
  ihave Hr := (Entails.of_eq (hX fun g => reached EM g 0)) $$ Hr
  ihave Htok := (Entails.of_eq hT) $$ Htok
  unfold G; simp only [bigSep_sep']
  isplitl [Hst]; · iexact Hst
  isplitl [Hat Hr]
  · isplitl [Hat] <;> iassumption
  iexact Htok

omit [FloatOps F] in
/-- The kernel's own semaphores at zero are the departures' and the landings'. -/
theorem ownSems0_eq (c : Dev nD) : (Pipeline.ownSems0 (Ix := Unit) (Name := ℕ) (U := UU) (Lvl := ℕ) (Val := Elt F) (τ := τ) osem c : sProp 𝕄)
    = iprop(bigSep Finset.univ (fun t => semVal (sCell c t) 0) ∗ bigSep Finset.univ fun t => semVal (rCell c t) 0) := by
  unfold Pipeline.ownSems0; exact over_own _
omit [FloatOps F] in
/-- The one semaphore of the runtime is the barrier's. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
/-- All of a device's semaphores at zero. -/
theorem sems0 (c : Dev nD) :
    iprop(Pipeline.ownSems0 (Ix := Unit) (Name := ℕ) (U := UU) (Lvl := ℕ) (Val := Elt F) (τ := τ) osem c ∗ unscopedSems0 c)
      ⊢ (bigSep Finset.univ fun k => semVal (kcell (c, k)) 0 : sProp 𝕄) := by
  rw [ownSems0_eq, unscopedSems0_eq, over_cells]
  iintro ⟨⟨HS, HV⟩, HB⟩
  isplitl [HB]; · iexact HB
  isplitl [HS]; · iexact HS
  iexact HV

omit [FloatOps F] in
/-- Device `c`'s semaphores go under their invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k => iprop(∃ κ : ℕ, cellInv EM (meshRd m ρ) κ (kcell (c, k))))
          ∗ (bigSep Finset.univ fun k => iprop(atPos EM (kcell (c, k)) 0 ∅ 0 ∗ reached EM (kcell (c, k)) 0)) ∗ toks c) := by
  unfold G
  iintro ⟨Hos, Hus, Hst, Hat, Htok⟩
  ihave Hv := (sems0 (F := F) c) $$ [Hos Hus]
  · isplitl [Hos] <;> iassumption
  imod (show iprop((bigSep Finset.univ fun k => semVal (kcell (c, k)) 0) ∗ bigSep Finset.univ fun k => roundState EM (meshRd m ρ) (kcell (c, k)) 0)
      ⊢ (|={Set.univ}=> bigSep Finset.univ fun k => iprop(∃ κ : ℕ, cellInv EM (meshRd m ρ) κ (kcell (c, k))) : sProp 𝕄) from by
        rw [← bigSep_sep']
        exact (bigSep_mono fun k _ => (Rounds.body_intro EM (meshRd m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The deal -/

/-- The devices paired along a link. -/
def flipEquiv (l : Fin 3) : Dev nD ≃ Dev nD := ⟨flip l, flip l, flip_flip l, flip_flip l⟩

/-- The tokens of the duties device `c` pays. -/
def payToks (c : Dev nD) : sProp 𝕄 :=
  iprop(dutyTok EM (barCell (flip 0 c)) 0 0 ∗ dutyTok EM (barCell (flip 1 c)) 0 1 ∗ dutyTok EM (barCell (flip 2 c)) 0 2
    ∗ bigSep Finset.univ (tokens (F := F) c))

omit [FloatOps F] in
/-- A barrier's tokens go to the neighbours, a landing's to the sender. -/
theorem toks_around : (bigSep Finset.univ fun c : Dev nD => (toks c : sProp 𝕄)) ⊢ bigSep Finset.univ fun c : Dev nD => payToks c := by
  have hb (l : Fin 3) : (bigSep Finset.univ fun c : Dev nD => (dutyTok EM (barCell c) 0 l : sProp 𝕄))
      = bigSep Finset.univ fun c : Dev nD => dutyTok EM (barCell (flip l c)) 0 l := bigSep_univ_equiv (flipEquiv l) _
  have hr : (bigSep Finset.univ fun c : Dev nD => bigSep Finset.univ fun t : Tr => (dutyTok EM (rCell c t) 0 0 : sProp 𝕄))
      = bigSep Finset.univ fun c : Dev nD => bigSep Finset.univ fun t : Tr => dutyTok EM (rCell (peer t c) t) 0 0 := by
    rw [bigSep_univ_comm, bigSep_congr fun (t : Tr) _ => bigSep_univ_equiv (peerEquiv t) fun c : Dev nD => (dutyTok EM (rCell c t) 0 0 : sProp 𝕄),
      bigSep_univ_comm]
    rfl
  unfold toks payToks tokens
  simp only [bigSep_sep']
  rw [hb 0, hb 1, hb 2, hr]
  iintro ⟨⟨H0, H1, H2⟩, Hs, Hr⟩
  isplitl [H0]; · iexact H0
  isplitl [H1]; · iexact H1
  isplitl [H2]; · iexact H2
  isplitl [Hs]; · iexact Hs
  iexact Hr

/-- What stays a device's own. -/
def mine (c : Dev nD) : sProp 𝕄 := iprop((bigSep Finset.univ fun k => atPos EM (kcell (c, k)) 0 ∅ 0) ∗ payToks c)

omit [FloatOps F] in
/-- The records and a device's tokens are what it is dealt. -/
theorem dealt_intro (K : Dev nD × Option Own → ℕ) (c : Dev nD) : iprop(records m ρ K ∗ mine c) ⊢ G' m ρ c := by
  unfold mine payToks G' Dealt
  rw [over_cells]
  iintro ⟨Hrec, ⟨Hb, Hs, Hr⟩, Ht⟩
  iexists K
  isplitl [Hrec]; · iexact Hrec
  isplitl [Ht]; · iexact Ht
  isplitl [Hb]; · iexact Hb
  isplitl [Hs]; · iexact Hs
  iexact Hr

omit [FloatOps F] in
/-- What each device holds, put together by who pays: every token goes to the device that will pay with it. -/
theorem regroup :
    (bigSep Finset.univ fun c : Dev nD => iprop((bigSep Finset.univ fun k => iprop(∃ κ : ℕ, cellInv EM (meshRd m ρ) κ (kcell (c, k))))
          ∗ (bigSep Finset.univ fun k => iprop(atPos EM (kcell (c, k)) 0 ∅ 0 ∗ reached EM (kcell (c, k)) 0)) ∗ toks c) : sProp 𝕄)
      ⊢ bigSep Finset.univ (G' m ρ) := by
  simp only [bigSep_sep']
  rw [← bigSep_univ_prod (fun ck : Dev nD × Option Own => iprop(∃ κ : ℕ, cellInv EM (meshRd m ρ) κ (kcell ck))),
    ← bigSep_univ_prod (fun ck : Dev nD × Option Own => (reached EM (kcell ck) 0 : sProp 𝕄))]
  iintro ⟨HI, ⟨Hat, #HR⟩, Htok⟩
  ihave HK := (BI.bigSep_exists_pi Finset.univ (fun (ck : Dev nD × Option Own) (κ : ℕ) => (cellInv EM (meshRd m ρ) κ (kcell ck) : sProp 𝕄))) $$ HI
  icases HK with ⟨%K, #HI⟩
  ihave Htk := (toks_around (F := F)) $$ Htok
  have hall : iprop(records m ρ K ∗ bigSep Finset.univ fun c : Dev nD => mine (F := F) c) ⊢ bigSep Finset.univ (G' m ρ) :=
    (sep_mono_left (BI.bigSep_of_persistent Finset.univ (records m ρ K))).trans
      (by rw [← bigSep_sep']; exact bigSep_mono fun c _ => dealt_intro m ρ K c)
  iapply hall
  isplitr
  · unfold records; isplitl; · iexact HI
    iexact HR
  · unfold mine; rw [bigSep_sep']
    isplitl [Hat]; · iexact Hat
    iexact Htk

omit [FloatOps F] in
/-- The step all devices take together. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The launch's credit -/

/-- Two devices' barriers are the same only for the same device. -/
theorem bar_eq_iff {a b : Dev nD} : barCell a = barCell b ↔ a = b :=
  ⟨fun h => congrArg (fun g : GSem nD τ sig => g.1.1) h, fun h => h ▸ rfl⟩
/-- The landings' semaphores are different. -/
theorem rS_inj : ∀ t t' : Tr, rS t = rS t' → t = t' := by decide +kernel
/-- Two landings' cells are the same only for the same device and transfer. -/
theorem recv_eq_iff {a b : Dev nD} {t t' : Tr} : rCell a t = rCell b t' ↔ a = b ∧ t = t' :=
  ⟨fun h => ⟨congrArg (fun g : GSem nD τ sig => g.1.1) h, rS_inj t t' (SemLoc.dma.inj (congrArg Prod.snd h))⟩, fun ⟨h, h'⟩ => h ▸ h' ▸ rfl⟩
/-- A barrier is not a landing's cell. -/
theorem bar_ne_recv {a b : Dev nD} {t : Tr} : barCell a ≠ rCell b t := fun h => by cases congrArg Prod.snd h

/-- What a device owes a cell, as a sum over the transfers. -/
theorem owed_apply (d : Dev nD) (g : GSem nD τ sig) : owed d Finset.univ g () = ∑ t : Tr, if g = rCell (peer t d) t then N t else 0 := by
  unfold owed
  rw [Finset.sum_apply, Finsupp.finset_sum_apply]
  refine Finset.sum_congr rfl fun t _ => ?_
  rw [tallyAt_apply]
  simp only [and_true]

/-- What device `d` owes `c`'s barrier: a unit over each link to it. -/
theorem owed_bar (d c : Dev nD) : O₀ d (barCell c) () = ∑ l : Fin 3, if d = flip l c then 1 else 0 := by
  have hz : owed d Finset.univ (barCell c) () = 0 := by
    rw [owed_apply]; exact Finset.sum_eq_zero fun t _ => if_neg bar_ne_recv
  have hl (l : Fin 3) : tallyAt (barCell (flip l d)) () 1 (barCell c) () = if d = flip l c then 1 else 0 := by
    rw [tallyAt_apply]
    refine if_congr ?_ rfl rfl
    rw [bar_eq_iff]
    exact ⟨fun h => by rw [h.1, flip_flip], fun h => ⟨by rw [h, flip_flip], rfl⟩⟩
  unfold O₀
  simp only [Pi.add_apply, Finsupp.add_apply]
  rw [hz, hl, hl, hl, Fin.sum_univ_three]
  omega

/-- What it owes a landing of `c`'s: the transfer's units, if it is the sender. -/
theorem owed_recv (d c : Dev nD) (t : Tr) : O₀ d (rCell c t) () = if d = peer t c then N t else 0 := by
  have hl (l : Fin 3) : tallyAt (barCell (flip l d)) () 1 (rCell c t) () = 0 := by
    rw [tallyAt_apply]; exact if_neg fun h => bar_ne_recv h.1.symm
  unfold O₀
  simp only [Pi.add_apply, Finsupp.add_apply]
  rw [hl, hl, hl, owed_apply, Finset.sum_eq_single t (fun t' _ hne => if_neg fun h => hne (recv_eq_iff.mp h).2.symm) (fun h => absurd (Finset.mem_univ t) h)]
  refine if_congr ?_ rfl rfl
  rw [recv_eq_iff]
  exact ⟨fun h => by rw [h.1, peer_peer], fun h => ⟨by rw [h, peer_peer], rfl⟩⟩

/-- The units that the devices owe a barrier together: three. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_comm,
    Finset.sum_congr rfl fun l _ => (Finset.sum_ite_eq' Finset.univ (flip l c) fun _ => 1).trans (if_pos (Finset.mem_univ _))]
  rfl

/-- The units that they owe a landing: the transfer's. -/
theorem launch_recv (c : Dev nD) (t : Tr) :
    tallyOn (rCell c t) (launchCredit (Pipeline.owing O₀) 0 (rCell c t)) = (tallyAt (rCell c t) () (N t) : CellTallies nD τ sig Unit) := by
  unfold tallyAt; refine congrArg _ (Finsupp.ext fun u => ?_); cases u
  rw [Pipeline.launchCredit_owing, Finsupp.single_eq_same, Finset.sum_congr rfl fun d _ => owed_recv d c t,
    Finset.sum_ite_eq' Finset.univ (peer t c) fun _ => N t, if_pos (Finset.mem_univ _)]

/-- The semaphores a device has credit on at the launch. -/
def credSem : Option Tr → SemLoc sig
  | none => .reg barS
  | some t => .dma (rS t)
/-- The semaphores that credits are for are different. -/
theorem credSem_inj : Function.Injective credSem := by
  have h : ∀ k k' : Option Tr, credSem k = credSem k' → k = k' := by decide +kernel
  exact fun k k' => h k k'

omit [FloatOps F] in
/-- The credit of a device at the launch: three units of its barrier, and each landing's. -/
theorem creds (c : Dev nD) :
    (Pipeline.launchCred O₀ c : sProp 𝕄) ⊢ iprop(cred (tallyAt (barCell c) () 3) ∗ bigSep Finset.univ fun t => cred (tallyAt (rCell c t) () (N t))) := by
  unfold Pipeline.launchCred
  rw [bigSep_sdiff_split (Finset.subset_univ (Finset.univ.map ⟨credSem, credSem_inj⟩)), bigSep_map]
  have h : (Finset.univ : Finset (Option Tr)) = insert none (Finset.univ.map Function.Embedding.some) := by decide +kernel
  rw [h, bigSep_insert (by simp), bigSep_map]
  refine sep_elim_left.trans (BI.sep_mono ?_ (bigSep_mono fun t _ => ?_))
  · exact Entails.of_eq (congrArg cred (launch_bar c))
  · exact Entails.of_eq (congrArg cred (launch_recv c t))

/-! ## The launch theorem's conditions -/

omit [FloatOps F] in
/-- What the launch deals a device is the state that it starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

/-- With the landing buffer it is the state before the body. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, ⟨%f, Hr⟩⟩
  isplitl [Hs]; · iexact Hs
  iexists f; unfold rPts; iexact Hr

/-- The state after the body gives back the buffer and the semaphores at zero. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq, ownSems0_eq, unscopedSems0_eq]
  unfold Φ₁
  iintro ⟨⟨%f, Hr⟩, HzB, HzS, HzV⟩
  isplitl [HzB]; · iexact HzB
  isplitl [HzS HzV]
  · isplitl [HzS] <;> iassumption
  iexists f; unfold rPts; iexact Hr

/-- The pipeline may wait on its own semaphores whatever the device owes. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide +kernel) _ (by
      rcases t with ⟨_ | _, ht⟩
      · exact Or.inl rfl
      · exact Or.inr rfl)

/-! ## The run -/

/-- What each of the call's arrays holds at the end. -/
def finalA (c : Dev nD) (w : Fin cfg0.W) : Buf (Elt F) ((cfg0.win w).arr.view.loc (c : Thread nD τ)) := (dats m ρ 0 c).arrAt w cfg0.N

/-- The run's end: each array of each device at the contents computed. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 100000 in
/-- On the mesh of eight devices, over any float values and from any memory with every counter at zero, every fair run of the program
    ends, with each device's arrays at the contents computed and every counter at zero again. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_mesh m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

set_option maxRecDepth 100000 in
/-- The array `x` after the run holds what it held. -/
theorem finalA_x (c : Dev nD) : finalA m ρ c (0 : Fin 2) = (s₀ m ρ).mem (win0_0.arr.view.loc (c : Thread nD τ)) :=
  (dats (F := F) m ρ 0 c).arrAt_in (0 : Fin 2) rfl _

end Cert.MeshSum

end
-- ==== Proof.Value.lean ====
/-
# What the run computes

Each device's result, over any float values, is its own block of `x` plus the block its other half of the mesh holds. Over the extended
reals the order of the two does not matter, and the sum is the one the reference takes over the two blocks of the whole array.
-/
module

public import proofs.«01_k».proof.Proof.Run
public import proofs.«01_k».proof.Proof.Gen.KernelIdeal.Points
public import proofs.«01_k».proof.Proof.Gen.ReferenceIdeal.Run
public import Idealize.ShloMosaic.Lib.ValueLayout
public import Idealize.ShloMosaic.Lib.Pointwise.Reduce

@[expose] public section

noncomputable section

namespace Cert.MeshSum

open Cert.KernelIdeal Cert.KernelIdeal.Gen
open Idealize.ShloMosaic
open Idealize.ShloMosaic.TcCoe
open Idealize.SL.Sem

section Arrays

variable {F : FTy → Type} [FloatOps F] (m : (ℓ : Loc nD τ sig) → Buf (Elt F) ℓ) (ρ : Dev nD → PrngReg)

/-- The block of the first window is the whole array: an element of it is at its own index. -/
theorem blk_x (t : Fin cfg0.N) (y : S4096x1024.Idx) : (win0_0.rect t).emb y = y := by
  funext a
  apply Fin.ext
  exact Pipeline.Window.rect_emb_val_of_index_zero win0_0 t a rfl y

/-- So is the second's. -/
theorem blk_out (t : Fin cfg0.N) (y : S4096x1024.Idx) : (win0_1.rect t).emb y = y := by
  funext a
  apply Fin.ext
  exact Pipeline.Window.rect_emb_val_of_index_zero win0_1 t a rfl y

/-- What the kernel reads as its block of `x` is the argument. -/
theorem xstg_eq (c : Dev nD) : xstg m ρ c = m ((c : Thread nD τ).loc main_arg0) :=
  funext fun y => congrArg (m ((c : Thread nD τ).loc main_arg0)) (blk_x (0 : Fin 1) y)

/-- What is written back is the whole result. -/
theorem flushed_eq (c : Dev nD) (t : Fin cfg0.N) :
    (dats m ρ 0 c).flushed (1 : Fin 2) t = ((cfg0.win 1).blk t).view.read (Elt F) (outAt m ρ c) :=
  funext fun y => (congrArg (outAt m ρ c) (blk_out t y)).symm

/-- It covers the array. -/
theorem cover (i : S4096x1024.Idx) : ∃ t : Fin cfg0.N, (cfg0.win 1).flush t = true ∧ i ∈ ((cfg0.win 1).blk t).view.set :=
  ⟨t0_0, flush0_1 _, by
    have h := ((cfg0.win 1).blk t0_0).view.emb_mem_set i
    have e : ((cfg0.win 1).blk t0_0).view.emb i = i := blk_out t0_0 i
    rwa [e] at h⟩

/-- The result after the run: the sum of the device's block and the one that reached it. -/
theorem finalA_out (c : Dev nD) : finalA m ρ c (1 : Fin 2) = outAt m ρ c :=
  (dats m ρ 0 c).arrAt_eq_of_cover (1 : Fin 2) (outAt m ρ c) (fun t _ => flushed_eq m ρ c t) cover

end Arrays

/-! ## Over the extended reals -/

section Ideal

/-- The whole array, as the reference takes it. -/
abbrev Whole : Type := Cert.ReferenceIdeal.S8192x1024.Idx → EReal

/-- Element `i` of block `k` of the whole array: row `4096 k + i₀`, column `i₁`. -/
abbrev inBlock (k : Fin 2) (i : S4096x1024.Idx) : Cert.ReferenceIdeal.S8192x1024.Idx := fun a => match a with
  | ⟨0, _⟩ => ⟨4096 * k.val + (i 0).val, by have h : (i 0).val < 4096 := (i 0).isLt; have := k.isLt; show _ < 8192; omega⟩
  | ⟨1, _⟩ => i 1

/-- The block of `x` a device holds is its position along the mesh's first axis. -/
def half (c : Dev nD) : Fin 2 := ⟨c.val / 4, by have h : c.val < 8 := c.isLt; omega⟩

/-- Along the rows a device's block is its place on the first axis; the columns are not cut. -/
theorem meshBlock_half : ∀ c : Dev nD, ((Layout.meshBlock [2, 2, 2] ![[0], []] c) 0).val = c.val / 4
    ∧ ((Layout.meshBlock [2, 2, 2] ![[0], []] c) 1).val = 0 := by decide +kernel

/-- A device's block of the whole array, element by element. -/
theorem block_apply (X : Whole) (c : Dev nD) (i : S4096x1024.Idx) :
    (Layout.blockN ⟨2, ![4096, 1024]⟩ ⟨2, ![8192, 1024]⟩ (Layout.meshBlock [2, 2, 2] ![[0], []] c) X) i = X (inBlock (half c) i) := by
  rw [Layout.blockN_apply]
  congr 1
  funext a
  apply Fin.ext
  rw [Layout.TilesN.idx_val]
  match a with
  | ⟨0, _⟩ =>
    show ((Layout.meshBlock [2, 2, 2] ![[0], []] c) 0).val * 4096 + (i 0).val = 4096 * (c.val / 4) + (i 0).val
    rw [(meshBlock_half c).1, Nat.mul_comm]
  | ⟨1, _⟩ =>
    show ((Layout.meshBlock [2, 2, 2] ![[0], []] c) 1).val * 1024 + (i 1).val = (i 1).val
    rw [(meshBlock_half c).2, Nat.zero_mul, Nat.zero_add]

variable (m : (ℓ : Loc nD τ sig) → Buf (Elt Ideal) ℓ) (ρ : Dev nD → PrngReg)

/-- When the devices hold the blocks of a whole array, each ends with the sum of its two blocks. -/
theorem outAt_apply (X : Whole)
    (hX : ∀ c : Dev nD, m ((c.tc : Thread nD τ).loc main_arg0)
      = Layout.blockN ⟨2, ![4096, 1024]⟩ ⟨2, ![8192, 1024]⟩ (Layout.meshBlock [2, 2, 2] ![[0], []] c) X)
    (c : Dev nD) (i : S4096x1024.Idx) :
    (outAt m ρ c i : EReal) = X (inBlock 0 i) + X (inBlock 1 i) := by
  have hx (d : Dev nD) : (xstg m ρ d i : EReal) = X (inBlock (half d) i) := by
    rw [xstg_eq]
    exact (congrFun (hX d) i).trans (block_apply X d i)
  obtain ⟨t, ht⟩ := W_cover c i
  have hs : (outAt m ρ c i : EReal) = (xstg m ρ c i : EReal) + (rem m ρ c i : EReal) := rfl
  rw [hs, rem_eq m ρ c ht, hx, hx]
  have ho := org_x c t
  have hc : c.val < 8 := c.isLt
  by_cases h : c.val / 4 = 0
  · rw [show half c = 0 from Fin.ext h, show half (org c t) = 1 from Fin.ext (by show (org c t).val / 4 = 1; omega)]
  · rw [show half c = 1 from Fin.ext (by show c.val / 4 = 1; omega), show half (org c t) = 0 from Fin.ext (by show (org c t).val / 4 = 0; omega)]
    exact add_comm _ _

/-- The array laid out as two blocks holds, at `(k, i₀, i₁)`, element `i` of block `k`. -/
theorem stacked_apply (X : Whole) (h : Cert.ReferenceIdeal.S8192x1024.ShapeCasts Cert.ReferenceIdeal.S2x4096x1024)
    (j : Cert.ReferenceIdeal.S2x4096x1024.Idx) (k : Fin 2) (i : S4096x1024.Idx)
    (h0 : (j 0).val = k.val) (h1 : (j 1).val = (i 0).val) (h2 : (j 2).val = (i 1).val) :
    shapeCast Cert.ReferenceIdeal.S2x4096x1024 X h j = X (inBlock k i) :=
  shapeCast_apply X h j (inBlock k i) (by
    rw [Shape.rowMajor_val_two, Shape.rowMajor_val_three]
    show (4096 * k.val + (i 0).val) * 1024 + (i 1).val = ((j 0).val * 4096 + (j 1).val) * 1024 + (j 2).val
    rw [h0, h1, h2, Nat.mul_comm 4096])

/-- The reference's result: the sum of the whole array's two blocks. -/
theorem reference_apply (X : Whole) (i : S4096x1024.Idx) :
    (Host.reduceAdd (F := Ideal) (φ := .f32) (shapeCast Cert.ReferenceIdeal.S2x4096x1024 X Cert.ReferenceIdeal.Gen.shapeCasts_S8192x1024_S2x4096x1024)
      (constant Cert.ReferenceIdeal.S_ .f32 0x00000000#32) Cert.ReferenceIdeal.Gen.reducesTo_S2x4096x1024_S4096x1024_d0 Cert.ReferenceIdeal.Gen.h_S_ i : EReal)
      = X (inBlock 0 i) + X (inBlock 1 i) := by
  rw [Host.reduceAdd_apply, Ideal.hostReduceAdd_def, Ideal.hostReduceAdd_r3_a0, Fin.sum_univ_two,
    stacked_apply X _ _ 0 i rfl rfl rfl, stacked_apply X _ _ 1 i rfl rfl rfl]
  have hz : ((constant Cert.ReferenceIdeal.S_ .f32 0x00000000#32 : FVec Ideal Cert.ReferenceIdeal.S_ .f32)
      (Shape.Idx.first Cert.ReferenceIdeal.Gen.h_S_) : EReal) = 0 := Ideal.ofBits_zero_f32
  exact (congrArg (· + (X (inBlock 0 i) + X (inBlock 1 i))) hz).trans (zero_add _)

end Ideal

end Cert.MeshSum

end
-- ==== Proof.lean ====
/-
# The five claims

The kernel, read at machine floats and at the extended reals, and the reference each run to an end with their arguments unchanged and
every counter at zero; no operation was replaced between the two readings of the kernel; and over the extended reals every device ends
with the reference's result. The kernel's run is proved once, for any float values (`Cert.MeshSum.run_main`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem
open Cert.MeshSum (run_main finalA_x finalA_out outAt outAt_apply reference_apply Whole)

/-- The kernel's body table is the same text under both names. -/
theorem defs₀_eq : Cert.Kernel.defs₀ (F := Bits) = Cert.KernelIdeal.defs₀ (F := Bits) := by
  unfold Cert.Kernel.defs₀ Cert.KernelIdeal.defs₀
  refine congrArg (Defs.onTc (nD := Cert.KernelIdeal.nD) (τ := Cert.KernelIdeal.τ) (sig := Cert.KernelIdeal.sig) (Val := Elt Bits) (Λ := Cert.KernelIdeal.Λ₀)) ?_
  funext l a
  match l, a with
  | 0, (t, s) => rfl

/-- So is the program's. -/
theorem defs_eq : Cert.Kernel.defs (F := Bits) = Cert.KernelIdeal.defs (F := Bits) :=
  congrArg (Pipeline.defs (Cert.KernelIdeal.pcfgs (F := Bits))) defs₀_eq

/-- The kernel at machine floats runs to an end, keeps its argument, and leaves every counter at zero. -/
theorem frame_kernel : Cert.quiescent_Kernel := fun m ρ _ => by
  rw [defs_eq]
  exact (θ_run Cert.KernelIdeal.defs _ _).mono
    (fun _ h => (⟨fun c => (h.1 c (0 : Fin 2)).trans (finalA_x m ρ c), h.2⟩ : _ ∧ _)) (run_main (F := Bits) m ρ)

/-- So does the kernel at the extended reals. -/
theorem frame_kernelIdeal : Cert.quiescent_KernelIdeal := fun m ρ _ =>
  (θ_run Cert.KernelIdeal.defs _ _).mono (fun _ h => ⟨fun c => (h.1 c (0 : Fin 2)).trans (finalA_x m ρ c), h.2⟩)
    (run_main (F := Ideal) m ρ)

/-- So does the reference, which has no counter. -/
theorem frame_referenceIdeal : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- No operation was replaced. -/
theorem preserves : Cert.preserves_Kernel_KernelIdeal := trivial

/-- Over the extended reals each device's result is the reference's: the sum of the two blocks of `x`. -/
theorem algebraic : Cert.algebraic_KernelIdeal_ReferenceIdeal := fun m g m' g' _ hX =>
  ⟨outAt m g 0,
    (θ_run Cert.KernelIdeal.defs _ _).mono (fun _ h c =>
        ⟨((h.1 c (1 : Fin 2)).trans (finalA_out m g c)).trans
          (funext fun i => (outAt_apply m g _ hX c i).trans (outAt_apply m g _ hX 0 i).symm),
          (h.1 c (0 : Fin 2)).trans (finalA_x m g c)⟩)
      (run_main (F := Ideal) m g),
    (θ_run Cert.ReferenceIdeal.defs _ _).mono (fun _ h =>
        ⟨(h 0).1.trans (funext fun i => (reference_apply _ i).trans (outAt_apply m g _ hX 0 i).symm), (h 0).2⟩)
      (Cert.ReferenceIdeal.Value.run (F := Ideal) m' g')⟩

/-- All five claims. -/
theorem claim : Cert.Claim := ⟨Cert.Kernel.Gen.facts, Cert.KernelIdeal.Gen.facts, Cert.ReferenceIdeal.Gen.facts,
  frame_kernel, frame_kernelIdeal, frame_referenceIdeal, preserves, algebraic⟩

end Cert.Proof

end
